-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S24x128x256 : Shape := ⟨3, ![24, 128, 256]⟩
abbrev S24 : Shape := ⟨1, ![24]⟩
abbrev S_ : Shape := ⟨0, ![]⟩
abbrev S128x256 : Shape := ⟨2, ![128, 256]⟩
abbrev S128x512 : Shape := ⟨2, ![128, 512]⟩
abbrev S1x128x256 : Shape := ⟨3, ![1, 128, 256]⟩
abbrev S1 : Shape := ⟨1, ![1]⟩

abbrev nBuf : Space → Nat
  | .hbm => 8
  | .vmem => 10
  | .smem => 0
  | _ => 0

abbrev bufTy : (tb : Table) → Fin (tcTables nBuf tb) → BufTy
  | .hbm, ⟨0, _⟩ => ⟨S256x256, .bf16⟩
  | .hbm, ⟨1, _⟩ => ⟨S256x512, .bf16⟩
  | .hbm, ⟨2, _⟩ => ⟨S512x256, .bf16⟩
  | .hbm, ⟨3, _⟩ => ⟨S256x512, .bf16⟩
  | .hbm, ⟨4, _⟩ => ⟨S512x256, .bf16⟩
  | .hbm, ⟨5, _⟩ => ⟨S256x512, .bf16⟩
  | .hbm, ⟨6, _⟩ => ⟨S512x256, .bf16⟩
  | .hbm, ⟨7, _⟩ => ⟨S256x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S256x256, .f32⟩
  | .local _ .vmem, ⟨8, _⟩ => ⟨S24x128x256, .bf16⟩
  | .local _ .vmem, ⟨9, _⟩ => ⟨S24x128x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_23 : BitVec 32 := 1#32
  let v31 : BitVec 32 := Scalar.xori v2 c1_i32_23
  let c1_i32_28 : BitVec 32 := 1#32
  let v32 : BitVec 32 := Scalar.muli v31 c1_i32_28
  let v33 : BitVec 32 := Scalar.addi c0_i32_29 v32
  v33.toNat
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_44 : BitVec 32 := 4#32
  let v57 : BitVec 32 := Scalar.xori v2 c4_i32_44
  let c1_i32_49 : BitVec 32 := 1#32
  let v58 : BitVec 32 := Scalar.muli v57 c1_i32_49
  let v59 : BitVec 32 := Scalar.addi c0_i32_50 v58
  v59.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_70 : BitVec 32 := 3#32
  let v84 : BitVec 32 := Scalar.xori v2 c3_i32_70
  let c1_i32_74 : BitVec 32 := 1#32
  let v85 : BitVec 32 := Scalar.muli v84 c1_i32_74
  let v86 : BitVec 32 := Scalar.addi c0_i32_75 v85
  v86.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_95 : BitVec 32 := 8#32
  let v111 : BitVec 32 := Scalar.xori v2 c8_i32_95
  let c1_i32_100 : BitVec 32 := 1#32
  let v112 : BitVec 32 := Scalar.muli v111 c1_i32_100
  let v113 : BitVec 32 := Scalar.addi c0_i32_101 v112
  v113.toNat
def k0_dev9 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_121 : BitVec 32 := 4#32
  let v138 : BitVec 32 := Scalar.xori v2 c4_i32_121
  let c1_i32_126 : BitVec 32 := 1#32
  let v139 : BitVec 32 := Scalar.muli v138 c1_i32_126
  let v140 : BitVec 32 := Scalar.addi c0_i32_127 v139
  v140.toNat
def k0_dev10 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_147 : BitVec 32 := 1#32
  let v165 : BitVec 32 := Scalar.xori v2 c1_i32_147
  let c1_i32_151 : BitVec 32 := 1#32
  let v166 : BitVec 32 := Scalar.muli v165 c1_i32_151
  let v167 : BitVec 32 := Scalar.addi c0_i32_152 v166
  v167.toNat
def k0_dev11 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_172 : BitVec 32 := 8#32
  let v192 : BitVec 32 := Scalar.xori v2 c8_i32_172
  let c1_i32_176 : BitVec 32 := 1#32
  let v193 : BitVec 32 := Scalar.muli v192 c1_i32_176
  let v194 : BitVec 32 := Scalar.addi c0_i32_177 v193
  v194.toNat
def k0_dev12 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_197 : BitVec 32 := 3#32
  let v219 : BitVec 32 := Scalar.xori v2 c3_i32_197
  let c1_i32_201 : BitVec 32 := 1#32
  let v220 : BitVec 32 := Scalar.muli v219 c1_i32_201
  let v221 : BitVec 32 := Scalar.addi c0_i32_202 v220
  v221.toNat
def k0_dev13 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_229 : BitVec 32 := 1#32
  let v256 : BitVec 32 := Scalar.xori v2 c1_i32_229
  let c1_i32_234 : BitVec 32 := 1#32
  let v257 : BitVec 32 := Scalar.muli v256 c1_i32_234
  let v258 : BitVec 32 := Scalar.addi c0_i32_235 v257
  v258.toNat
def k0_dev14 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_262 : BitVec 32 := 4#32
  let v293 : BitVec 32 := Scalar.xori v2 c4_i32_262
  let c1_i32_266 : BitVec 32 := 1#32
  let v294 : BitVec 32 := Scalar.muli v293 c1_i32_266
  let v295 : BitVec 32 := Scalar.addi c0_i32_267 v294
  v295.toNat
def k0_dev15 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_287 : BitVec 32 := 3#32
  let v320 : BitVec 32 := Scalar.xori v2 c3_i32_287
  let c1_i32_291 : BitVec 32 := 1#32
  let v321 : BitVec 32 := Scalar.muli v320 c1_i32_291
  let v322 : BitVec 32 := Scalar.addi c0_i32_292 v321
  v322.toNat
def k0_dev16 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_312 : BitVec 32 := 8#32
  let v347 : BitVec 32 := Scalar.xori v2 c8_i32_312
  let c1_i32_316 : BitVec 32 := 1#32
  let v348 : BitVec 32 := Scalar.muli v347 c1_i32_316
  let v349 : BitVec 32 := Scalar.addi c0_i32_317 v348
  v349.toNat
def k0_dev17 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_337 : BitVec 32 := 4#32
  let v374 : BitVec 32 := Scalar.xori v2 c4_i32_337
  let c1_i32_341 : BitVec 32 := 1#32
  let v375 : BitVec 32 := Scalar.muli v374 c1_i32_341
  let v376 : BitVec 32 := Scalar.addi c0_i32_342 v375
  v376.toNat
def k0_dev18 (d0 : Dev nD) : Nat :=
  let c0_i32_367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_362 : BitVec 32 := 1#32
  let v401 : BitVec 32 := Scalar.xori v2 c1_i32_362
  let c1_i32_366 : BitVec 32 := 1#32
  let v402 : BitVec 32 := Scalar.muli v401 c1_i32_366
  let v403 : BitVec 32 := Scalar.addi c0_i32_367 v402
  v403.toNat
def k0_dev19 (d0 : Dev nD) : Nat :=
  let c0_i32_392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_387 : BitVec 32 := 8#32
  let v428 : BitVec 32 := Scalar.xori v2 c8_i32_387
  let c1_i32_391 : BitVec 32 := 1#32
  let v429 : BitVec 32 := Scalar.muli v428 c1_i32_391
  let v430 : BitVec 32 := Scalar.addi c0_i32_392 v429
  v430.toNat
def k0_dev20 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_412 : BitVec 32 := 3#32
  let v455 : BitVec 32 := Scalar.xori v2 c3_i32_412
  let c1_i32_416 : BitVec 32 := 1#32
  let v456 : BitVec 32 := Scalar.muli v455 c1_i32_416
  let v457 : BitVec 32 := Scalar.addi c0_i32_417 v456
  v457.toNat
def k0_dev21 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_444 : BitVec 32 := 1#32
  let v492 : BitVec 32 := Scalar.xori v2 c1_i32_444
  let c1_i32_449 : BitVec 32 := 1#32
  let v493 : BitVec 32 := Scalar.muli v492 c1_i32_449
  let v494 : BitVec 32 := Scalar.addi c0_i32_450 v493
  v494.toNat
def k0_dev22 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_477 : BitVec 32 := 4#32
  let v529 : BitVec 32 := Scalar.xori v2 c4_i32_477
  let c1_i32_481 : BitVec 32 := 1#32
  let v530 : BitVec 32 := Scalar.muli v529 c1_i32_481
  let v531 : BitVec 32 := Scalar.addi c0_i32_482 v530
  v531.toNat
def k0_dev23 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_502 : BitVec 32 := 3#32
  let v556 : BitVec 32 := Scalar.xori v2 c3_i32_502
  let c1_i32_506 : BitVec 32 := 1#32
  let v557 : BitVec 32 := Scalar.muli v556 c1_i32_506
  let v558 : BitVec 32 := Scalar.addi c0_i32_507 v557
  v558.toNat
def k0_dev24 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_527 : BitVec 32 := 8#32
  let v583 : BitVec 32 := Scalar.xori v2 c8_i32_527
  let c1_i32_531 : BitVec 32 := 1#32
  let v584 : BitVec 32 := Scalar.muli v583 c1_i32_531
  let v585 : BitVec 32 := Scalar.addi c0_i32_532 v584
  v585.toNat
def k0_dev25 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_552 : BitVec 32 := 4#32
  let v610 : BitVec 32 := Scalar.xori v2 c4_i32_552
  let c1_i32_556 : BitVec 32 := 1#32
  let v611 : BitVec 32 := Scalar.muli v610 c1_i32_556
  let v612 : BitVec 32 := Scalar.addi c0_i32_557 v611
  v612.toNat
def k0_dev26 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_577 : BitVec 32 := 1#32
  let v637 : BitVec 32 := Scalar.xori v2 c1_i32_577
  let c1_i32_581 : BitVec 32 := 1#32
  let v638 : BitVec 32 := Scalar.muli v637 c1_i32_581
  let v639 : BitVec 32 := Scalar.addi c0_i32_582 v638
  v639.toNat
def k0_dev27 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_602 : BitVec 32 := 8#32
  let v664 : BitVec 32 := Scalar.xori v2 c8_i32_602
  let c1_i32_606 : BitVec 32 := 1#32
  let v665 : BitVec 32 := Scalar.muli v664 c1_i32_606
  let v666 : BitVec 32 := Scalar.addi c0_i32_607 v665
  v666.toNat
def k0_dev28 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_627 : BitVec 32 := 3#32
  let v691 : BitVec 32 := Scalar.xori v2 c3_i32_627
  let c1_i32_631 : BitVec 32 := 1#32
  let v692 : BitVec 32 := Scalar.muli v691 c1_i32_631
  let v693 : BitVec 32 := Scalar.addi c0_i32_632 v692
  v693.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x8192 : Shape := ⟨2, ![256, 8192]⟩
abbrev S8192x256 : Shape := ⟨2, ![8192, 256]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S256x256, .bf16⟩
  | .hbm, ⟨1, _⟩ => ⟨S256x8192, .bf16⟩
  | .hbm, ⟨2, _⟩ => ⟨S8192x256, .bf16⟩
  | .hbm, ⟨3, _⟩ => ⟨S256x8192, .bf16⟩
  | .hbm, ⟨4, _⟩ => ⟨S8192x256, .bf16⟩
  | .hbm, ⟨5, _⟩ => ⟨S256x8192, .bf16⟩
  | .hbm, ⟨6, _⟩ => ⟨S8192x256, .bf16⟩
  | .hbm, ⟨7, _⟩ => ⟨S256x8192, .f32⟩
  | .hbm, ⟨8, _⟩ => ⟨S256x8192, .bf16⟩
  | .hbm, ⟨9, _⟩ => ⟨S_, .bf16⟩
  | .hbm, ⟨10, _⟩ => ⟨S256x8192, .bf16⟩
  | .hbm, ⟨11, _⟩ => ⟨S256x8192, .bf16⟩
  | .hbm, ⟨12, _⟩ => ⟨S256x256, .f32⟩
  | .hbm, ⟨13, _⟩ => ⟨S256x256, .bf16⟩
  | .hbm, ⟨14, _⟩ => ⟨S256x8192, .f32⟩
  | .hbm, ⟨15, _⟩ => ⟨S256x8192, .bf16⟩
  | .hbm, ⟨16, _⟩ => ⟨S_, .bf16⟩
  | .hbm, ⟨17, _⟩ => ⟨S256x8192, .bf16⟩
  | .hbm, ⟨18, _⟩ => ⟨S256x8192, .bf16⟩
  | .hbm, ⟨19, _⟩ => ⟨S256x256, .f32⟩
  | .hbm, ⟨20, _⟩ => ⟨S256x256, .bf16⟩
  | .hbm, ⟨21, _⟩ => ⟨S256x8192, .f32⟩
  | .hbm, ⟨22, _⟩ => ⟨S256x8192, .bf16⟩
  | .hbm, ⟨23, _⟩ => ⟨S_, .bf16⟩
  | .hbm, ⟨24, _⟩ => ⟨S256x8192, .bf16⟩
  | .hbm, ⟨25, _⟩ => ⟨S256x8192, .bf16⟩
  | .hbm, ⟨26, _⟩ => ⟨S256x256, .f32⟩
  | .hbm, ⟨27, _⟩ => ⟨S256x256, .bf16⟩
  | .hbm, ⟨28, _⟩ => ⟨S256x256, .f32⟩
  | _, _ => ⟨S256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.KernelIdealRun.Mesh.lean ====
/-
# The mesh: partners, slots and semaphore cells of the butterfly exchange

Sixteen devices exchange over twenty-four slots. Slot `k` of a device's send buffer is sent once, into slot `k` of its
partner's receive buffer; the partner of slot `k` is the device whose number differs by one of the four masks 1, 3, 4, 8.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Partners -/

/-- The four masks of the butterfly. -/
def mask : Fin 4 → ℕ := ![1, 3, 4, 8]

theorem xor_lt : ∀ (j : Fin 4) (c : Dev nD), c.val ^^^ mask j < nD := by decide +kernel

set_option backward.proofsInPublic true in
/-- The partner of device `c` under mask `j`. -/
def px (j : Fin 4) (c : Dev nD) : Dev nD := ⟨c.val ^^^ mask j, xor_lt j c⟩

/-- Being partners is mutual. -/
theorem px_px : ∀ (j : Fin 4) (c : Dev nD), px j (px j c) = c := by decide +kernel

/-- The partner under mask `j`, as a permutation of the devices. -/
def pxEquiv (j : Fin 4) : Dev nD ≃ Dev nD := ⟨px j, px j, px_px j, px_px j⟩

set_option backward.proofsInPublic true in
/-- Slot `k` belongs to row chunk `k % 2` and exchange stage `k / 2 % 4`; the second chunk takes the masks in the order
    4, 8, 1, 3. -/
def jOf (k : Fin 24) : Fin 4 := ⟨(k.val / 2 + 2 * (k.val % 2)) % 4, Nat.mod_lt _ (by decide)⟩

/-- The device `c` exchanges slot `k` with. -/
def par (k : Fin 24) (c : Dev nD) : Dev nD := px (jOf k) c

theorem par_par (k : Fin 24) (c : Dev nD) : par k (par k c) = c := px_px _ _

/-- The device numbers the barrier signals name. -/
def barDev (j : Fin 4) (c : Dev nD) : ℕ := (![k0_dev1, k0_dev2, k0_dev3, k0_dev4] : Fin 4 → Dev nD → ℕ) j c
theorem barDev_eq : ∀ (j : Fin 4) (c : Dev nD), barDev j c = (px j c).val := by decide +kernel

/-- The device numbers the twenty-four transfers name. -/
def slotDev (k : Fin 24) (c : Dev nD) : ℕ :=
  (![k0_dev5, k0_dev6, k0_dev7, k0_dev8, k0_dev9, k0_dev10, k0_dev11, k0_dev12, k0_dev13, k0_dev14, k0_dev15, k0_dev16,
    k0_dev17, k0_dev18, k0_dev19, k0_dev20, k0_dev21, k0_dev22, k0_dev23, k0_dev24, k0_dev25, k0_dev26, k0_dev27, k0_dev28] :
      Fin 24 → Dev nD → ℕ) k c
theorem slotDev_eq : ∀ (k : Fin 24) (c : Dev nD), slotDev k c = (par k c).val := by decide +kernel

/-! ## The slots -/

abbrev sM : Memref sig .tc .vmem S24x128x256 .bf16 := Memref.whole cc0_scratch0
abbrev rM : Memref sig .tc .vmem S24x128x256 .bf16 := Memref.whole cc0_scratch1

theorem inbR : ∀ (k : Fin 24) (a : Fin 3), (![k.val, 0, 0] : Fin 3 → ℕ) a + S1x128x256.size a ≤ S24x128x256.size a := by decide +kernel
theorem inbQ : ∀ (k : Fin 24) (a : Fin 1), (![k.val] : Fin 1 → ℕ) a + S1.size a ≤ S24.size a := by decide +kernel

/-- The rows of slot `k` in either buffer. -/
abbrev slotR (k : Fin 24) : Rect S24x128x256 := Rect.unit (s := S24x128x256) ![k.val, 0, 0] S1x128x256.size (inbR k)

/-- Slot `k` of the send buffer and of the receive buffer, with its leading dimension of one, -/
abbrev sSl (k : Fin 24) : Memref sig .tc .vmem S1x128x256 .bf16 := sM.slice (slotR k) (fun _ => rfl)
abbrev rSl (k : Fin 24) : Memref sig .tc .vmem S1x128x256 .bf16 := rM.slice (slotR k) (fun _ => rfl)
/-- and without it, as the transfers name it. -/
abbrev sSq (k : Fin 24) : Memref sig .tc .vmem S128x256 .bf16 := (sSl k).squeeze S128x256 squeezes_S1x128x256_S128x256
abbrev rSq (k : Fin 24) : Memref sig .tc .vmem S128x256 .bf16 := (rSl k).squeeze S128x256 squeezes_S1x128x256_S128x256

/-! ## The semaphores -/

/-- The barrier semaphore of the devices' entry, -/
abbrev barS : Sem sig := (SemArray.scalar (sig.barrier 0 rfl) : Sems sig S_).sem
/-- the send and the receive semaphore of slot `k`. -/
abbrev sendQ (k : Fin 24) : DmaSem sig := ((cc0_scratch2.slice (Rect.unit (s := S24) ![k.val] S1.size (inbQ k))).squeeze S_ squeezes_S1_S_).sem
abbrev recvQ (k : Fin 24) : DmaSem sig := ((cc0_scratch3.slice (Rect.unit (s := S24) ![k.val] S1.size (inbQ k))).squeeze S_ squeezes_S1_S_).sem

theorem sendQ_val : ∀ k : Fin 24, (sendQ k).val = 8 + k.val := by decide +kernel
theorem recvQ_val : ∀ k : Fin 24, (recvQ k).val = 32 + k.val := by decide +kernel

theorem sendQ_inj {k k' : Fin 24} (h : sendQ k = sendQ k') : k = k' := by
  have := congrArg Fin.val h; rw [sendQ_val, sendQ_val] at this; exact Fin.ext (by omega)
theorem recvQ_inj {k k' : Fin 24} (h : recvQ k = recvQ k') : k = k' := by
  have := congrArg Fin.val h; rw [recvQ_val, recvQ_val] at this; exact Fin.ext (by omega)
theorem sendQ_ne_recvQ (k k' : Fin 24) : sendQ k ≠ recvQ k' := fun h => by
  have := congrArg Fin.val h; rw [sendQ_val, recvQ_val] at this; omega

abbrev barCell (c : Dev nD) : GSem nD τ sig := ((c : Thread nD τ), .reg barS)
abbrev sendCell (c : Dev nD) (k : Fin 24) : GSem nD τ sig := ((c : Thread nD τ), .dma (sendQ k))
abbrev recvCell (c : Dev nD) (k : Fin 24) : GSem nD τ sig := ((c : Thread nD τ), .dma (recvQ k))

/-- The kernel's own DMA semaphores: `(false, k)` the send one of slot `k`, `(true, k)` the receive one. -/
def osem : Bool × Fin 24 → SemLoc sig := fun bk => if bk.1 then .dma (recvQ bk.2) else .dma (sendQ bk.2)

/-- What a slot's transfer adds to each of its two semaphores. -/
abbrev N : ℕ := (rSq 0).view.dmaCredit
theorem N_pos : 0 < N := View.dmaCredit_pos _ (by decide)
theorem amount_eq (k : Fin 24) : (rSq k).view.dmaCredit = N := rfl
theorem amount_eq' (k : Fin 24) : (sSq k).view.dmaCredit = N := rfl

theorem ownSemFacts : Pipeline.OwnSemFacts cfg0.spec osem := by decide +kernel

end Cert.KernelIdealRun

end
-- ==== Proof.KernelIdealRun.Values.lean ====
/-
# The values each device computes, slot by slot

`val k c` is the f32 partial result device `c` holds when it sends slot `k`, and `msg k c` what it puts in the slot.
-/
module

public import proofs.«01_k».proof.Proof.KernelIdealRun.Mesh

@[expose] public section

noncomputable section

namespace Cert.KernelIdealRun

open Cert.KernelIdeal Cert.KernelIdeal.Gen

open Idealize.ShloMosaic
open Idealize.ShloMosaic.TcCoe
open Idealize.SL.Sem

variable {F : FTy → Type} [FloatOps F]

variable (m : (ℓ : Loc nD τ sig) → Buf (Elt F) ℓ)

/-! ## What the staging buffers hold -/

/-- The replicated activations on device `c`, -/
def xIn (c : Dev nD) : (cc0_stg0_0 : Ref sig .tc).ty.Contents (Elt F) := (win0_0.blk (0 : Fin 1)).view.read (Elt F) (m ((c : Thread nD τ).loc main_arg0))
/-- and its shards of the weights of the three layers. -/
def wi0 (c : Dev nD) : (cc0_stg1_0 : Ref sig .tc).ty.Contents (Elt F) := (win0_1.blk (0 : Fin 1)).view.read (Elt F) (m ((c : Thread nD τ).loc main_arg1))
def wo0 (c : Dev nD) : (cc0_stg2_0 : Ref sig .tc).ty.Contents (Elt F) := (win0_2.blk (0 : Fin 1)).view.read (Elt F) (m ((c : Thread nD τ).loc main_arg2))
def wi1 (c : Dev nD) : (cc0_stg3_0 : Ref sig .tc).ty.Contents (Elt F) := (win0_3.blk (0 : Fin 1)).view.read (Elt F) (m ((c : Thread nD τ).loc main_arg3))
def wo1 (c : Dev nD) : (cc0_stg4_0 : Ref sig .tc).ty.Contents (Elt F) := (win0_4.blk (0 : Fin 1)).view.read (Elt F) (m ((c : Thread nD τ).loc main_arg4))
def wi2 (c : Dev nD) : (cc0_stg5_0 : Ref sig .tc).ty.Contents (Elt F) := (win0_5.blk (0 : Fin 1)).view.read (Elt F) (m ((c : Thread nD τ).loc main_arg5))
def wo2 (c : Dev nD) : (cc0_stg6_0 : Ref sig .tc).ty.Contents (Elt F) := (win0_6.blk (0 : Fin 1)).view.read (Elt F) (m ((c : Thread nD τ).loc main_arg6))

/-- The rectangle of the rows from `128 * b` on, `b` the chunk. -/
abbrev rowsA : Rect S256x256 := Rect.unit (s := S256x256) ![0, 0] S128x256.size inb_S256x256_S128x256_0_0
abbrev rowsB : Rect S256x256 := Rect.unit (s := S256x256) ![128, 0] S128x256.size inb_S256x256_S128x256_128_0

/-- The two chunks of the activations' rows. -/
def xA (c : Dev nD) : Vec F S128x256 .bf16 := fun i => xIn m c (rowsA.emb i)
def xB (c : Dev nD) : Vec F S128x256 .bf16 := fun i => xIn m c (rowsB.emb i)

/-! ## The step -/

/-- One layer on a device's shard of the hidden units: the rows `x` times the first matrix, clamped below at zero, rounded to
    bf16, times the second. -/
def layer (x : FVec F S128x256 .bf16) (wi : Vec F S256x512 .bf16) (wo : Vec F S512x256 .bf16) : FVec F S128x256 .f32 :=
  matmul dot_S128x512_S512x256_S128x256_1_0_0_1_n_n none
    (truncf .bf16 (maximumf (matmul dot_S128x256_S256x512_S128x512_1_0_0_1_n_n none x (shapeCast S256x512 wi shapeCasts_S256x512_S256x512) (constant S128x512 .f32 0x00000000#32))
      (broadcast S128x512 (Scalar.ofBits .f32 0x00000000#32))) bitsLt_bf16_f32)
    (shapeCast S512x256 wo shapeCasts_S512x256_S512x256) (constant S128x256 .f32 0x00000000#32)

/-- What a slot carries of a partial result: its rounding to bf16. -/
def pack (v : FVec F S128x256 .f32) : FVec F S1x128x256 .bf16 := shapeCast S1x128x256 (truncf .bf16 v bitsLt_bf16_f32) shapeCasts_S128x256_S1x128x256

/-- A partial result with a received slot added. -/
def acc (v : FVec F S128x256 .f32) (w : Vec F S1x128x256 .bf16) : FVec F S128x256 .f32 :=
  addf v (extf .f32 (shapeCast S128x256 w shapeCasts_S1x128x256_S128x256) bitsLt_bf16_f32)

/-- The partial result device `c` sends in slot `k`: in the first two slots the first layer's on its shard, one chunk each;
    two slots later the sum with what the partner sent, and, once the four stages of a layer are done, the next layer of that. -/
def val : ℕ → Dev nD → FVec F S128x256 .f32
  | 0, c => layer (shapeCast S128x256 (xA m c) shapeCasts_S128x256_S128x256) (wi0 m c) (wo0 m c)
  | 1, c => layer (shapeCast S128x256 (xB m c) shapeCasts_S128x256_S128x256) (wi0 m c) (wo0 m c)
  | k + 2, c =>
    let a := acc (val k c) (pack (val k (par (Fin.ofNat 24 k) c)))
    if k / 2 % 4 = 3 then
      (if k < 8 then layer (truncf .bf16 a bitsLt_bf16_f32) (wi1 m c) (wo1 m c)
       else if k < 16 then layer (truncf .bf16 a bitsLt_bf16_f32) (wi2 m c) (wo2 m c) else a)
    else a

/-- What device `c` puts in slot `k`. -/
def msg (k : ℕ) (c : Dev nD) : FVec F S1x128x256 .bf16 := pack (val m k c)

/-- Within a layer, the next partial result is the sum with what was received. -/
theorem val_acc {k : ℕ} (h : k / 2 % 4 ≠ 3) (hk : k < 24) (c : Dev nD) : val m (k + 2) c = acc (val m k c) (msg m k (par ⟨k, hk⟩ c)) := by
  have e : (Fin.ofNat 24 k) = ⟨k, hk⟩ := Fin.ext (Nat.mod_eq_of_lt hk)
  unfold msg; rw [← e]; exact if_neg h
/-- At the end of the last layer too. -/
theorem val_last {k : ℕ} (h : 16 ≤ k) (hk : k < 24) (c : Dev nD) : val m (k + 2) c = acc (val m k c) (msg m k (par ⟨k, hk⟩ c)) := by
  have e : (Fin.ofNat 24 k) = ⟨k, hk⟩ := Fin.ext (Nat.mod_eq_of_lt hk)
  by_cases h3 : k / 2 % 4 = 3
  · unfold msg; rw [← e]; unfold val; rw [if_pos h3, if_neg (by omega), if_neg (by omega)]; rcases k with _ | _ | k <;> rfl
  · exact val_acc m h3 hk c

theorem xA_cast (c : Dev nD) : val m 0 c = layer (shapeCast S128x256 (xA m c) shapeCasts_S128x256_S128x256) (wi0 m c) (wo0 m c) := rfl
/-- After the first layer's four stages: the second layer of the sum; -/
theorem val_layer1 {k : ℕ} (h : k / 2 % 4 = 3) (h8 : k < 8) (c : Dev nD) :
    val m (k + 2) c = layer (truncf .bf16 (acc (val m k c) (msg m k (par ⟨k, by omega⟩ c))) bitsLt_bf16_f32) (wi1 m c) (wo1 m c) := by
  have e : (Fin.ofNat 24 k) = ⟨k, by omega⟩ := Fin.ext (Nat.mod_eq_of_lt (by omega))
  unfold msg; rw [← e]; exact (if_pos h).trans (if_pos h8)
/-- after the second's: the third. -/
theorem val_layer2 {k : ℕ} (h : k / 2 % 4 = 3) (h8 : ¬ k < 8) (h16 : k < 16) (c : Dev nD) :
    val m (k + 2) c = layer (truncf .bf16 (acc (val m k c) (msg m k (par ⟨k, by omega⟩ c))) bitsLt_bf16_f32) (wi2 m c) (wo2 m c) := by
  have e : (Fin.ofNat 24 k) = ⟨k, by omega⟩ := Fin.ext (Nat.mod_eq_of_lt (by omega))
  unfold msg; rw [← e]; exact (if_pos h).trans ((if_neg h8).trans (if_pos h16))

/-! ## The result -/

/-- Row `r`, column `q` of a chunk. -/
def at2 (r : Fin 128) (q : Fin 256) : S128x256.Idx := fun (a : Fin 2) => match a with | 0 => r | 1 => q

/-- The result on device `c`: its first 128 rows the first chunk's last sum, the others the second's. -/
def outV (c : Dev nD) : (cc0_stg7_0 : Ref sig .tc).ty.Contents (Elt F) := fun (i : S256x256.Idx) =>
  if h : (i 0).val < 128 then val m 24 c (at2 ⟨(i 0).val, h⟩ (i 1))
  else val m 25 c (at2 ⟨(i 0).val - 128, by have : (i 0).val < 256 := (i 0).isLt; omega⟩ (i 1))

end Cert.KernelIdealRun

end
-- ==== Proof.KernelIdealRun.Schedule.lean ====
/-
# The protocol: who pays which semaphore, with what

Every semaphore of the exchange is used for one round. A device's barrier semaphore collects one unit from each of its four
partners; with its unit a partner hands over the receive slots the device will write on it. A send semaphore collects the
credit of the slot's transfer and gives the send slot back; a receive semaphore collects the same credit and gives the receive
slot, holding what the partner sent.
-/
module

public import proofs.«01_k».proof.Proof.KernelIdealRun.Values

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's ghost state, duties named by the four masks, beside the pipeline's. -/
abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Holding a slot -/

/-- Device `c` holds slot `k` of its send buffer, at `X`; -/
def sHas (c : Dev nD) (k : Fin 24) (X : S1x128x256.Idx → Elt F .bf16) : sProp 𝕄 := owns (c : Thread nD τ) (sSl k) fullShare X
/-- the holder has slot `k` of device `c`'s receive buffer, at `X`; -/
def rHas (c : Dev nD) (k : Fin 24) (X : S1x128x256.Idx → Elt F .bf16) : sProp 𝕄 := owns (c : Thread nD τ) (rSl k) fullShare X
/-- at anything. -/
def sAny (c : Dev nD) (k : Fin 24) : sProp 𝕄 := iprop(∃ X, sHas c k X)
def rAny (c : Dev nD) (k : Fin 24) : sProp 𝕄 := iprop(∃ X, rHas c k X)

omit [FloatOps F] in
instance sHas_storable (c : Dev nD) (k : Fin 24) (X) : BI.Storable (upEmb : UEmb _ 𝕄) (sHas (F := F) c k X) := by unfold sHas; infer_instance
omit [FloatOps F] in
instance rHas_storable (c : Dev nD) (k : Fin 24) (X) : BI.Storable (upEmb : UEmb _ 𝕄) (rHas (F := F) c k X) := by unfold rHas; infer_instance
omit [FloatOps F] in
instance rAny_storable (c : Dev nD) (k : Fin 24) : BI.Storable (upEmb : UEmb _ 𝕄) (rAny (F := F) c k) := by unfold rAny; infer_instance

/-! ## The schedule -/

/-- What the partner of `c` under mask `j` hands over with its unit: its receive slots of that mask. -/
def barPay (c : Dev nD) (j : Fin 4) : sProp 𝕄 := bigSep Finset.univ fun k : Fin 24 => if jOf k = j then rAny (px j c) k else iprop(emp)

omit [FloatOps F] in
instance barPay_storable (c : Dev nD) (j : Fin 4) : BI.Storable (upEmb : UEmb _ 𝕄) (barPay (F := F) c j) := by
  haveI : ∀ k : Fin 24, BI.Storable (upEmb : UEmb _ 𝕄) (if jOf k = j then rAny (F := F) (px j c) k else iprop(emp)) := fun k => by
    split <;> infer_instance
  unfold barPay; infer_instance

/-- The slot a DMA semaphore of the exchange belongs to: semaphores 8 to 31 are the send ones, 32 to 55 the receive ones. -/
def slotOf (q : DmaSem sig) : Fin 24 := Fin.ofNat 24 (q.val + 16)
theorem slotOf_send (k : Fin 24) : slotOf (sendQ k) = k := Fin.ext (by
  unfold slotOf; show ((sendQ k).val + 16) % 24 = _; rw [sendQ_val]; have := k.isLt; omega)
theorem slotOf_recv (k : Fin 24) : slotOf (recvQ k) = k := Fin.ext (by
  unfold slotOf; show ((recvQ k).val + 16) % 24 = _; rw [recvQ_val]; have := k.isLt; omega)

/-- The duties of a semaphore in round 0. -/
def dutiesOf : SemLoc sig → Finset (Fin 4)
  | .reg s => if s = barS then Finset.univ else ∅
  | .dma q => if 8 ≤ q.val then {0} else ∅

/-- The payload of a duty. -/
def payOf (c : Dev nD) (d : Fin 4) : SemLoc sig → sProp 𝕄
  | .reg _ => barPay c d
  | .dma q => if q.val < 32 then sHas c (slotOf q) (msg m (slotOf q).val c) else rHas c (slotOf q) (msg m (slotOf q).val (par (slotOf q) c))

instance payOf_storable (c : Dev nD) (d : Fin 4) (s : SemLoc sig) : BI.Storable (upEmb : UEmb _ 𝕄) (payOf m c d s) := by
  cases s with
  | reg _ => unfold payOf; infer_instance
  | dma q => show BI.Storable upEmb (ite _ _ _); split <;> infer_instance

/-- The schedule. -/
def Rd : Rounds.Schedule (GSem nD τ sig) (Fin 4) 𝕄 where
  duties g r := if r = 0 ∧ g.1.2 = .tc then dutiesOf g.2 else ∅
  unitless _ := False
  amount g _ _ := match g.2 with | .reg _ => 1 | .dma _ => N
  payload g _ d := payOf m g.1.1 d g.2
  amount_pos g _ _ _ := by
    rcases g with ⟨_, _ | _⟩
    · exact Nat.one_pos
    · exact N_pos

instance Rd_payload_storable (g : GSem nD τ sig) (r : ℕ) (d : Fin 4) : BI.Storable (upEmb : UEmb _ 𝕄) ((Rd (F := F) m).payload g r d) :=
  payOf_storable m _ _ _

theorem unitless_none (g : GSem nD τ sig) : ¬ (Rd (F := F) m).unitless g := fun h => h

section Tables
variable (c : Dev nD) (k : Fin 24)

theorem duties_at (s : SemLoc sig) : (Rd (F := F) m).duties ((c : Thread nD τ), s) 0 = dutiesOf s := by dsimp only [Rd]; exact if_pos ⟨rfl, rfl⟩
theorem duties_bar : (Rd (F := F) m).duties (barCell c) 0 = Finset.univ := by rw [duties_at]; dsimp only [dutiesOf]; exact if_pos rfl
theorem duties_send : (Rd (F := F) m).duties (sendCell c k) 0 = {0} := (duties_at m c _).trans (if_pos (by rw [sendQ_val]; omega))
theorem duties_recv : (Rd (F := F) m).duties (recvCell c k) 0 = {0} := (duties_at m c _).trans (if_pos (by rw [recvQ_val]; omega))
theorem duties_later (g : GSem nD τ sig) : ∀ r, 1 ≤ r → (Rd (F := F) m).duties g r = ∅ := fun r hr => if_neg fun h => by omega

theorem amount_bar (d : Fin 4) : (Rd (F := F) m).amount (barCell c) 0 d = 1 := rfl
theorem amount_send (d : Fin 4) : (Rd (F := F) m).amount (sendCell c k) 0 d = N := rfl
theorem amount_recv (d : Fin 4) : (Rd (F := F) m).amount (recvCell c k) 0 d = N := rfl

theorem payload_bar (d : Fin 4) : (Rd (F := F) m).payload (barCell c) 0 d = barPay c d := rfl
theorem payload_send (d : Fin 4) : (Rd (F := F) m).payload (sendCell c k) 0 d = sHas c k (msg m k.val c) := by
  refine (if_pos (by rw [sendQ_val]; have := k.isLt; omega)).trans ?_; rw [slotOf_send]
theorem payload_recv (d : Fin 4) : (Rd (F := F) m).payload (recvCell c k) 0 d = rHas c k (msg m k.val (par k c)) := by
  refine (if_neg (by rw [recvQ_val]; omega)).trans ?_; rw [slotOf_recv]

theorem expect_bar : (Rd (F := F) m).expect (barCell c) 0 = 4 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c k) 0 = N := by
  unfold Schedule.expect Schedule.amountOf; rw [duties_send, Finset.sum_singleton, amount_send]
theorem expect_recv : (Rd (F := F) m).expect (recvCell c k) 0 = N := by
  unfold Schedule.expect Schedule.amountOf; rw [duties_recv, Finset.sum_singleton, amount_recv]

/-- All that a barrier semaphore's round hands over: from every partner its receive slots of the partner's mask, that is, every
    receive slot `c` will write. -/
theorem rest_bar : bigSep ((Rd (F := F) m).duties (barCell c) 0 \ ∅) (fun d => (Rd (F := F) m).payload (barCell c) 0 d)
    ⊢ (bigSep Finset.univ fun k : Fin 24 => rAny (par k c) k : sProp 𝕄) := by
  rw [Finset.sdiff_empty, duties_bar]
  show (bigSep Finset.univ fun d : Fin 4 => bigSep Finset.univ fun k : Fin 24 => if jOf k = d then rAny (px d c) k else iprop(emp)) ⊢ _
  rw [bigSep_univ_comm]
  refine bigSep_mono fun k _ => ?_
  refine (bigSep_elim (Φ := fun d => if jOf k = d then rAny (px d c) k else iprop(emp)) (Finset.mem_univ (jOf k))).trans ?_
  rw [if_pos rfl]; exact BI.Entails.refl _
theorem rest_send : bigSep ((Rd (F := F) m).duties (sendCell c k) 0 \ ∅) (fun d => (Rd (F := F) m).payload (sendCell c k) 0 d) = sHas c k (msg m k.val c) := by
  rw [Finset.sdiff_empty, duties_send, bigSep_singleton, payload_send]
theorem rest_recv : bigSep ((Rd (F := F) m).duties (recvCell c k) 0 \ ∅) (fun d => (Rd (F := F) m).payload (recvCell c k) 0 d) = rHas c k (msg m k.val (par k c)) := by
  rw [Finset.sdiff_empty, duties_recv, bigSep_singleton, payload_recv]

end Tables

/-! ## What a device owes, and the levels of the waits -/

/-- Once the slots before `a` are sent, device `c` owes the receive semaphores of the slots from `a` on. -/
def Orem (c : Dev nD) (a : ℕ) : CellTallies nD τ sig Unit := ∑ k ∈ Finset.univ.filter (fun k : Fin 24 => a ≤ k.val), tallyAt (recvCell (par k c) k) () N

/-- Once the barrier signals of the masks before `j` are made, it owes those of the masks from `j` on as well. -/
def Obar (c : Dev nD) (j : ℕ) : CellTallies nD τ sig Unit := Orem c 0 + ∑ d ∈ Finset.univ.filter (fun d : Fin 4 => j ≤ d.val), tallyAt (barCell (px d c)) () 1

/-- Peeling the first of the items from `a` on. -/
theorem from_succ {n : ℕ} (k : Fin n) : Finset.univ.filter (fun i : Fin n => k.val ≤ i.val) = insert k (Finset.univ.filter (fun i : Fin n => k.val + 1 ≤ i.val)) := by
  ext i; simp only [Finset.mem_filter, Finset.mem_univ, true_and, Finset.mem_insert, Fin.ext_iff]; omega

theorem Orem_step (c : Dev nD) (k : Fin 24) : Orem c k.val = Orem c (k.val + 1) + tallyAt (recvCell (par k c) k) () N := by
  unfold Orem
  rw [from_succ k, Finset.sum_insert (by simp), add_comm]
theorem Orem_end (c : Dev nD) : Orem c 24 = 0 := by
  unfold Orem
  rw [Finset.filter_eq_empty_iff.mpr fun k _ => by have := k.isLt; omega, Finset.sum_empty]
theorem Obar_step (c : Dev nD) (j : Fin 4) : Obar c j.val = Obar c (j.val + 1) + tallyAt (barCell (px j c)) () 1 := by
  unfold Obar
  rw [from_succ j, Finset.sum_insert (by simp), add_comm (tallyAt _ _ _), add_assoc]
theorem Obar_end (c : Dev nD) : Obar c 4 = Orem c 0 := by
  unfold Obar
  rw [Finset.filter_eq_empty_iff.mpr fun k _ => by have := k.isLt; omega, Finset.sum_empty, add_zero]

def L (g : GSem nD τ sig) : Finset Unit := if g.1.2 = .tc then {()} else ∅
/-- Staging and send semaphores at 0, barrier semaphores at 1, the receive semaphore of slot `k` at `2 + k`. -/
def lvOf : SemLoc sig → ℕ
  | .reg _ => 1
  | .dma q => if q.val < 32 then 0 else q.val - 30
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : Fin 24) (u : Unit) : lv (recvCell c k) u = k.val + 2 := by
  unfold lv lvOf; show (if (recvQ k).val < 32 then 0 else (recvQ k).val - 30) = _; rw [recvQ_val]; rw [if_neg (by omega)]; omega

/-- What is owed after the slots before `a`: only receive semaphores of later slots. -/
theorem Orem_pos {c : Dev nD} {a : ℕ} {g : GSem nD τ sig} {u : Unit} (h : 0 < Orem c a g u) : ∃ k : Fin 24, a ≤ k.val ∧ g = recvCell (par k c) k := by
  unfold Orem at h
  rw [Finset.sum_apply, Finsupp.finset_sum_apply] at h
  obtain ⟨k, hk, hp⟩ := Finset.exists_ne_zero_of_sum_ne_zero h.ne'
  refine ⟨k, (Finset.mem_filter.mp hk).2, ?_⟩
  rw [tallyAt_apply] at hp
  by_contra hn
  exact hp (if_neg fun h' => hn h'.1)

theorem Obar_pos {c : Dev nD} {j : ℕ} {g : GSem nD τ sig} {u : Unit} (h : 0 < Obar c j g u) :
    (∃ k : Fin 24, g = recvCell (par k c) k) ∨ ∃ d : Fin 4, g = barCell (px d c) := by
  unfold Obar at h
  rw [Pi.add_apply, Finsupp.add_apply] at h
  rcases Nat.eq_zero_or_pos (Orem c 0 g u) with h0 | h0
  · rw [h0, Nat.zero_add, Finset.sum_apply, Finsupp.finset_sum_apply] at h
    obtain ⟨d, -, hp⟩ := Finset.exists_ne_zero_of_sum_ne_zero h.ne'
    refine Or.inr ⟨d, ?_⟩
    rw [tallyAt_apply] at hp
    by_contra hn
    exact hp (if_neg fun h' => hn h'.1)
  · obtain ⟨k, -, hk⟩ := Orem_pos h0
    exact Or.inl ⟨k, hk⟩

omit [FloatOps F] in
/-- A wait below every level owed is allowed. -/
theorem mayWait_of (c : Dev nD) (sm : SemLoc sig) (O : CellTallies nD τ sig Unit)
    (hO : ∀ g u, 0 < O g u → g.1.2 = .tc ∧ lvOf sm < lv g u) : (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_rfl)
    (fun g u hg => (hO g u hg).2)

omit [FloatOps F] in
/-- The wait on the receive semaphore of slot `k`, slots up to `k` sent. -/
theorem mayWait_recv (c : Dev nD) (k : Fin 24) (a : ℕ) (h : k.val < a) : (levAts L lv : sProp 𝕄) ⊢ MayWait (c : Thread nD τ) (.dma (recvQ k)) () (Orem c a) :=
  mayWait_of c _ _ fun g u hg => by
    obtain ⟨k', hk', rfl⟩ := Orem_pos hg
    refine ⟨rfl, ?_⟩
    rw [lv_recv]
    have := lv_recv c k ()
    unfold lv at this
    show lvOf (.dma (recvQ k)) < _
    rw [this]; omega

omit [FloatOps F] in
/-- The wait on the barrier semaphore, the four signals made. -/
theorem mayWait_bar (c : Dev nD) : (levAts L lv : sProp 𝕄) ⊢ MayWait (c : Thread nD τ) (.reg barS) () (Orem c 0) :=
  mayWait_of c _ _ fun g u hg => by
    obtain ⟨k', hk', rfl⟩ := Orem_pos hg
    refine ⟨rfl, ?_⟩
    rw [lv_recv]; show 1 < _; omega

omit [FloatOps F] in
/-- The pipeline's waits on its staging semaphores. -/
theorem mayWait_stage (c : Dev nD) (q : DmaSem sig) (hq : q.val < 32) (j : ℕ) : (levAts L lv : sProp 𝕄) ⊢ MayWait (c : Thread nD τ) (.dma q) () (Obar c j) :=
  mayWait_of c _ _ fun g u hg => by
    have hz : lvOf (.dma q) = 0 := if_pos hq
    rcases Obar_pos hg with ⟨k, rfl⟩ | ⟨d, rfl⟩
    · refine ⟨rfl, ?_⟩; rw [lv_recv, hz]; omega
    · exact ⟨rfl, by rw [hz]; exact Nat.one_pos⟩

end Cert.KernelIdealRun

end
-- ==== Proof.KernelIdealRun.Steps.lean ====
/-
# The steps of the exchange, one lemma for all slots

Between two steps a device holds, for each of its slots, what the slot's place in the exchange leaves it with; four counts say
how far the exchange has come. A step moves one count on by one, whatever the slot.
-/
module

public import proofs.«01_k».proof.Proof.KernelIdealRun.Schedule

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- From here on the program `P` runs on device `c` to `Q`. -/
abbrev Runs (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## What is known throughout: every semaphore's invariant -/

/-- The semaphores of the exchange on one device: the barrier's, and a send and a receive one per slot. -/
abbrev CI : Type := Option (Bool × Fin 24)
def csem : CI → SemLoc sig
  | none => .reg barS
  | some bk => osem bk
abbrev kcell (ck : Dev nD × CI) : GSem nD τ sig := ((ck.1 : Thread nD τ), csem ck.2)

variable (K : Dev nD × CI → ℕ)

/-- Of one semaphore: its invariant, and that round 0 is reached. -/
def record (ck : Dev nD × CI) : sProp 𝕄 := iprop(cellInv ER (Rd m) (K ck) (kcell ck) ∗ reached ER (kcell ck) 0)
instance record_persistent (ck : Dev nD × CI) : BI.Persistent (record m K ck) := by unfold record; infer_instance

/-- Of all, with the levels of the waits. -/
def records : sProp 𝕄 := iprop((bigSep Finset.univ fun ck : Dev nD × CI => record m K ck) ∗ levAts L lv)
instance records_persistent : BI.Persistent (records m K) := by unfold records; infer_instance

theorem records_at (ck : Dev nD × CI) : records m K ⊢ record m K ck := by
  unfold records
  iintro ⟨H, -⟩
  have h : (bigSep Finset.univ fun ck : Dev nD × CI => record m K ck) ⊢ record m K ck := bigSep_elim (Finset.mem_univ ck)
  iapply h; iexact H
theorem records_bar (c : Dev nD) : records m K ⊢ iprop(cellInv ER (Rd m) (K (c, none)) (barCell c) ∗ reached ER (barCell c) 0) := records_at m K (c, none)
theorem records_send (c : Dev nD) (k : Fin 24) :
    records m K ⊢ iprop(cellInv ER (Rd m) (K (c, some (false, k))) (sendCell c k) ∗ reached ER (sendCell c k) 0) := records_at m K (c, some (false, k))
theorem records_recv (c : Dev nD) (k : Fin 24) :
    records m K ⊢ iprop(cellInv ER (Rd m) (K (c, some (true, k))) (recvCell c k) ∗ reached ER (recvCell c k) 0) := records_at m K (c, some (true, k))
/-! ## What a device holds of each slot -/

/-- To send slot `k`, device `c` holds the two duties the transfer pays, the partner's receive slot, and its own place on the
    send semaphore. -/
def toks (c : Dev nD) (k : Fin 24) : sProp 𝕄 :=
  iprop(dutyTok ER (sendCell c k) 0 0 ∗ dutyTok ER (recvCell (par k c) k) 0 0 ∗ rAny (par k c) k ∗ atPos ER (sendCell c k) 0 ∅ 0)

/-- Of slot `k` of the send buffer, when the slots before `s` are filled, those before `a` sent and those before `d` back. -/
def sStat (c : Dev nD) (s a d : ℕ) (k : Fin 24) : sProp 𝕄 :=
  if k.val < d then iprop(sAny c k ∗ semVal (sendCell c k) 0)
  else if k.val < a then iprop(atPos ER (sendCell c k) 0 ∅ 0 ∗ cred (tallyAt (sendCell c k) () N))
  else if k.val < s then iprop(sHas c k (msg m k.val c) ∗ toks c k)
  else iprop(sAny c k ∗ toks c k)

/-- Of slot `k` of the receive buffer, when the slots before `b` have arrived. -/
def rStat (c : Dev nD) (b : ℕ) (k : Fin 24) : sProp 𝕄 :=
  if k.val < b then iprop(rHas c k (msg m k.val (par k c)) ∗ semVal (recvCell c k) 0)
  else iprop(atPos ER (recvCell c k) 0 ∅ 0 ∗ cred (tallyAt (recvCell c k) () N))

/-- All a device holds between two steps; `R` is what the exchange does not touch. -/
def St (c : Dev nD) (R : sProp 𝕄) (s a b d : ℕ) : sProp 𝕄 :=
  iprop(records m K ∗ R ∗ (∃ W, owes (c : Thread nD τ) (Orem c a) W)
    ∗ (bigSep Finset.univ fun k : Fin 24 => sStat m c s a d k) ∗ (bigSep Finset.univ fun k : Fin 24 => rStat m c b k))

variable {m K}

/-- A step that changes the send slot `k` only. -/
theorem sStat_turn (c : Dev nD) (k : Fin 24) {s a d s' a' d' : ℕ} (h : ∀ j : Fin 24, j ≠ k → sStat m c s' a' d' j = sStat m c s a d j) :
    (bigSep Finset.univ fun j : Fin 24 => sStat m c s a d j)
      ⊢ iprop(sStat m c s a d k ∗ (sStat m c s' a' d' k -∗ bigSep Finset.univ fun j : Fin 24 => sStat m c s' a' d' j)) :=
  bigSep_univ_update k h
theorem rStat_turn (c : Dev nD) (k : Fin 24) {b b' : ℕ} (h : ∀ j : Fin 24, j ≠ k → rStat m c b' j = rStat m c b j) :
    (bigSep Finset.univ fun j : Fin 24 => rStat m c b j)
      ⊢ iprop(rStat m c b k ∗ (rStat m c b' k -∗ bigSep Finset.univ fun j : Fin 24 => rStat m c b' j)) :=
  bigSep_univ_update k h

theorem sStat_congr (c : Dev nD) (j : Fin 24) {s a d s' a' d' : ℕ} (hd : j.val < d' ↔ j.val < d) (ha : j.val < a' ↔ j.val < a) (hs : j.val < s' ↔ j.val < s) :
    sStat m c s' a' d' j = sStat m c s a d j := by
  unfold sStat; simp only [hd, ha, hs]
theorem rStat_congr (c : Dev nD) (j : Fin 24) {b b' : ℕ} (hb : j.val < b' ↔ j.val < b) : rStat m c b' j = rStat m c b j := by
  unfold rStat; simp only [hb]

theorem sStat_new (c : Dev nD) (k : Fin 24) {s a d : ℕ} (hs : s ≤ k.val) (ha : a ≤ k.val) (hd : d ≤ k.val) :
    sStat m c s a d k = iprop(sAny c k ∗ toks c k) := by
  unfold sStat; rw [if_neg (by omega), if_neg (by omega), if_neg (by omega)]
theorem sStat_filled (c : Dev nD) (k : Fin 24) {s a d : ℕ} (hs : k.val < s) (ha : a ≤ k.val) (hd : d ≤ k.val) :
    sStat m c s a d k = iprop(sHas c k (msg m k.val c) ∗ toks c k) := by
  unfold sStat; rw [if_neg (by omega), if_neg (by omega), if_pos hs]
theorem sStat_sent (c : Dev nD) (k : Fin 24) {s a d : ℕ} (ha : k.val < a) (hd : d ≤ k.val) :
    sStat m c s a d k = iprop(atPos ER (sendCell c k) 0 ∅ 0 ∗ cred (tallyAt (sendCell c k) () N)) := by
  unfold sStat; rw [if_neg (by omega), if_pos ha]
theorem sStat_back (c : Dev nD) (k : Fin 24) {s a d : ℕ} (hd : k.val < d) : sStat m c s a d k = iprop(sAny c k ∗ semVal (sendCell c k) 0) := by
  unfold sStat; rw [if_pos hd]
theorem rStat_due (c : Dev nD) (k : Fin 24) {b : ℕ} (hb : b ≤ k.val) :
    rStat m c b k = iprop(atPos ER (recvCell c k) 0 ∅ 0 ∗ cred (tallyAt (recvCell c k) () N)) := by
  unfold rStat; rw [if_neg (by omega)]
theorem rStat_here (c : Dev nD) (k : Fin 24) {b : ℕ} (hb : k.val < b) :
    rStat m c b k = iprop(rHas c k (msg m k.val (par k c)) ∗ semVal (recvCell c k) 0) := by
  unfold rStat; rw [if_pos hb]

/-! ## Reading and writing a slot -/

section Steps
variable {c : Dev nD} {α : Type}

/-- Loading a send slot that is not yet filled yields something. -/
theorem step_peek {R : sProp 𝕄} {Q : α → sProp 𝕄} (k : Fin 24) {hl : sM.view.LoadsAt (slotR k).toLoadRect}
    {cont : ((slotR k).toLoadRect.shape.Idx → Elt F .bf16) → Prog (TpuEff nD τ sig (Elt F) Λ₀ .tc) α} {a b : ℕ} (ha : a ≤ k.val)
    (h : ∀ v, St m K c R k.val a b 0 ⊢ Runs c (cont v) Q) :
    St m K c R k.val a b 0 ⊢ Runs c (.op (.load sM (slotR k).toLoadRect hl) cont) Q := by
  have hs := sStat_turn (m := m) (s := k.val) (a := a) (d := 0) c k (s' := k.val) (a' := a) (d' := 0) (fun _ _ => rfl)
  rw [sStat_new c k le_rfl ha (Nat.zero_le _)] at hs
  unfold St at h ⊢
  iintro ⟨#Hrec, HR, Ho, HS, HV⟩
  ihave HS' := hs $$ HS
  icases HS' with ⟨⟨HA, Ht⟩, Hback⟩
  unfold sAny sHas owns
  icases HA with ⟨%X, %f, %hf, Hp⟩
  iapply (wp_load_rect 𝒱₀ (c : Thread nD τ) none Set.univ (m := sM) (r := slotR k) (hl := hl) (f := f) (S := (sSl k).view.set) subset_rfl) $$ Hp
  iintro Hp
  iapply (h _)
  isplitr; · iexact Hrec
  isplitl [HR]; · iexact HR
  isplitl [Ho]; · iexact Ho
  isplitl [Hback Hp Ht]
  · iapply Hback
    isplitl [Hp]
    · iexists X; iexists f
      isplitr; · ipureintro; exact hf
      iexact Hp
    · iexact Ht
  · iexact HV

/-- Filling send slot `k` with the message of that slot. -/
theorem step_store {R : sProp 𝕄} {Q : α → sProp 𝕄} (k : Fin 24) {w : S1x128x256.Idx → Elt F .bf16} {hx : (sM.access (slotR k)).Stores Finset.univ} {hm}
    {cont : PUnit → Prog (TpuEff nD τ sig (Elt F) Λ₀ .tc) α} {a b : ℕ} (ha : a ≤ k.val) (hw : w = msg m k.val c)
    (h : St m K c R (k.val + 1) a b 0 ⊢ Runs c (cont ⟨⟩) Q) :
    St m K c R k.val a b 0 ⊢ Runs c (.op (.store sM (slotR k) w Finset.univ hx hm) cont) Q := by
  have hs := sStat_turn (m := m) (s := k.val) (a := a) (d := 0) c k (s' := k.val + 1) (a' := a) (d' := 0)
    (fun j hj => sStat_congr c j Iff.rfl Iff.rfl (by have : j.val ≠ k.val := fun e => hj (Fin.ext e); omega))
  rw [sStat_new c k le_rfl ha (Nat.zero_le _), sStat_filled c k (Nat.lt_succ_self _) ha (Nat.zero_le _)] at hs
  unfold St at h ⊢
  iintro ⟨#Hrec, HR, Ho, HS, HV⟩
  ihave HS' := hs $$ HS
  icases HS' with ⟨⟨HA, Ht⟩, Hback⟩
  unfold sAny sHas owns
  icases HA with ⟨%X, %f, %hf, Hp⟩
  iapply (wp_store 𝒱₀ (c : Thread nD τ) none Set.univ (m := sM) (r := slotR k) (w := w) (Mk := Finset.univ) (hx := hx) (hm := hm) (f := f)
    (S := (sSl k).view.set) subset_rfl) $$ Hp
  iintro Hp
  iapply h
  isplitr; · iexact Hrec
  isplitl [HR]; · iexact HR
  isplitl [Ho]; · iexact Ho
  isplitl [Hback Hp Ht]
  · iapply Hback
    isplitl [Hp]
    · iexists _
      isplitr
      rotate_left
      · iexact Hp
      · ipureintro; exact (View.read_write_univ _ _).trans hw
    · iexact Ht
  · iexact HV

/-- Loading a receive slot that has arrived yields the partner's message. -/
theorem step_fetch {R : sProp 𝕄} {Q : α → sProp 𝕄} (k : Fin 24) {hl : rM.view.LoadsAt (slotR k).toLoadRect}
    {cont : ((slotR k).toLoadRect.shape.Idx → Elt F .bf16) → Prog (TpuEff nD τ sig (Elt F) Λ₀ .tc) α} {s a d : ℕ}
    (h : St m K c R s a (k.val + 1) d ⊢ Runs c (cont (msg m k.val (par k c))) Q) :
    St m K c R s a (k.val + 1) d ⊢ Runs c (.op (.load rM (slotR k).toLoadRect hl) cont) Q := by
  have hr := rStat_turn (m := m) (b := k.val + 1) c k (b' := k.val + 1) (fun _ _ => rfl)
  rw [rStat_here c k (Nat.lt_succ_self _)] at hr
  unfold St at h ⊢
  iintro ⟨#Hrec, HR, Ho, HS, HV⟩
  ihave HV' := hr $$ HV
  icases HV' with ⟨⟨HA, Hz⟩, Hback⟩
  unfold rHas owns
  icases HA with ⟨%f, %hf, Hp⟩
  iapply (wp_load_rect 𝒱₀ (c : Thread nD τ) none Set.univ (m := rM) (r := slotR k) (hl := hl) (f := f) (S := (rSl k).view.set) subset_rfl) $$ Hp
  iintro Hp
  rw [show (rM.access (slotR k)).read (Elt F) f = msg m k.val (par k c) from hf]
  iapply h
  isplitr; · iexact Hrec
  isplitl [HR]; · iexact HR
  isplitl [Ho]; · iexact Ho
  isplitl [HS]; · iexact HS
  iapply Hback
  isplitl [Hp]
  · iexists f
    isplitr; · ipureintro; exact hf
    iexact Hp
  · iexact Hz

/-! ## Sending and waiting -/

omit [FloatOps F] in
/-- What a transfer leaves in the receive slot is what the send slot held. -/
theorem landed (k : Fin 24) (fd fs) :
    (rSl k).view.read (Elt F) ((rSq k).view.write (Elt F) fd ((sSq k).view.read (Elt F) fs) Finset.univ) = (sSl k).view.read (Elt F) fs := by
  have hq : (rSq k).view.read (Elt F) ((rSq k).view.write (Elt F) fd ((sSq k).view.read (Elt F) fs) Finset.univ) = (sSq k).view.read (Elt F) fs :=
    View.read_write_univ _ _
  funext i
  obtain ⟨j, rfl⟩ := (Shape.reshapeEquiv squeezes_S1x128x256_S128x256.numel_eq).surjective i
  exact congrFun hq j

omit [FloatOps F] in
theorem sSq_set (k : Fin 24) : (sSq k).view.set = (sSl k).view.set := View.set_reshape _ _
omit [FloatOps F] in
theorem rSq_set (k : Fin 24) : (rSq k).view.set = (rSl k).view.set := View.set_reshape _ _

/-- Sending slot `k` to its partner. -/
theorem step_send {R : sProp 𝕄} {Q : α → sProp 𝕄} (k : Fin 24) {n : Dev nD} (hn : n = par k c)
    {hsc : (rSq k).view.ref.isScScratch = false} {hsrc : (sSq k).view.WordExact} {hdst : (rSq k).view.WordExact}
    {hsem : DmaTarget.Typed .vmem (.dma (recvQ k)) (.remote (Dev.tc n : Thread nD τ) (rSq k) (.dma (sendQ k)) hsc)}
    {cont : PUnit → Prog (TpuEff nD τ sig (Elt F) Λ₀ .tc) α} {b : ℕ}
    (h : St m K c R (k.val + 1) (k.val + 1) b 0 ⊢ Runs c (cont ⟨⟩) Q) :
    St m K c R (k.val + 1) k.val b 0
      ⊢ Runs c (.op (.enqueueDma (sSq k) (.remote (Dev.tc n : Thread nD τ) (rSq k) (.dma (sendQ k)) hsc) (.dma (recvQ k)) hsrc hdst hsem) cont) Q := by
  subst hn
  have hs := sStat_turn (m := m) (s := k.val + 1) (a := k.val) (d := 0) c k (s' := k.val + 1) (a' := k.val + 1) (d' := 0)
    (fun j hj => sStat_congr c j Iff.rfl (by have : j.val ≠ k.val := fun e => hj (Fin.ext e); omega) Iff.rfl)
  rw [sStat_filled c k (Nat.lt_succ_self _) le_rfl (Nat.zero_le _), sStat_sent c k (Nat.lt_succ_self _) (Nat.zero_le _)] at hs
  unfold St at h ⊢
  iintro ⟨#Hrec, HR, ⟨%W, Ho⟩, HS, HV⟩
  ihave HS' := hs $$ HS
  unfold toks rAny sHas rHas owns
  icases HS' with ⟨⟨⟨%f, %hf, Hp⟩, HtS, HtV, ⟨%Y, %g, -, Hg⟩, Hat⟩, Hback⟩
  ihave Hs := (records_send m K c k) $$ Hrec
  ihave Hv := (records_recv m K (par k c) k) $$ Hrec
  icases Hs with ⟨#HIs, #Hrs⟩
  icases Hv with ⟨#HIv, #Hrv⟩
  iapply (Rounds.wp_send_pointsTo 𝒱₀ ER (Rd m) (c : Thread nD τ) none (c' := (par k c : Thread nD τ)) (src := sSq k) (dst := rSq k) (κ₁ := K (c, some (false, k))) (κ₂ := K (par k c, some (true, k)))
    (r₁ := 0) (r₂ := 0) (d₁ := 0) (d₂ := 0) (q := fullShare) (fs := f) (fd := g)
    (by rw [duties_send]; exact Finset.mem_singleton_self _) (by rw [duties_recv]; exact Finset.mem_singleton_self _)
    () () N rfl (amount_send m c k 0) (amount_recv m (par k c) k 0) (Orem c (k.val + 1)) (Orem_step c k) (W := W)
    (by rw [payload_send, sSq_set]; unfold sHas owns; iintro H; iexists f; isplitr; · ipureintro; exact hf
        iexact H)
    (by rw [payload_recv, rSq_set, par_par]; unfold rHas owns; iintro H; iexists _; isplitr
        rotate_left
        · iexact H
        · ipureintro; exact (landed k g f).trans hf)) $$ [Hp Hg Ho HtS HtV]
  · isplitr; · iexact HIs
    isplitr; · iexact HIv
    isplitl [Hp]; · rw [sSq_set]; iexact Hp
    isplitl [Hg]; · rw [rSq_set]; iexact Hg
    isplitl [Ho]; · iexact Ho
    isplitl [HtS]; · iexact HtS
    isplitr; · iexact Hrs
    isplitl [HtV]; · iexact HtV
    iexact Hrv
  iintro ⟨Hc, Ho⟩
  iapply h
  isplitr; · iexact Hrec
  isplitl [HR]; · iexact HR
  isplitl [Ho]; · iexists W; iexact Ho
  isplitl [Hback Hat Hc]
  · iapply Hback
    isplitl [Hat] <;> iassumption
  · iexact HV

/-- Waiting for slot `k`, slot `k` itself being sent: the partner's message is there. -/
theorem step_recv {R : sProp 𝕄} {Q : α → sProp 𝕄} (k : Fin 24) {hsrc : (sSq k).view.WordExact} {hdst : (rSq k).view.WordExact} {cont : PUnit → Prog (TpuEff nD τ sig (Elt F) Λ₀ .tc) α} {s a d : ℕ} (ha : k.val < a)
    (h : St m K c R s a (k.val + 1) d ⊢ Runs c (cont ⟨⟩) Q) :
    St m K c R s a k.val d ⊢ Runs c (.op (.waitDma2 (recvQ k) (sSq k) (rSq k) hsrc hdst) cont) Q := by
  have hr := rStat_turn (m := m) (b := k.val) c k (b' := k.val + 1)
    (fun j hj => rStat_congr c j (by have : j.val ≠ k.val := fun e => hj (Fin.ext e); omega))
  have hw : records m K ⊢ MayWait (c : Thread nD τ) (.dma (recvQ k)) () (Orem c a) := by
    unfold records; iintro ⟨-, H⟩; iapply (mayWait_recv c k a ha); iexact H
  rw [rStat_due c k le_rfl, rStat_here c k (Nat.lt_succ_self _)] at hr
  unfold St at h ⊢
  iintro ⟨#Hrec, HR, ⟨%W, Ho⟩, HS, HV⟩
  ihave HV' := hr $$ HV
  icases HV' with ⟨⟨Hat, Hc⟩, Hback⟩
  ihave Hv := (records_recv m K c k) $$ Hrec
  icases Hv with ⟨#HIv, #Hrv⟩
  iapply (Rounds.wp_wait_rest_token 𝒱₀ ER (Rd m) (c : Thread nD τ) none (κ := K (c, some (true, k)))
      (wpE_waitDma2_eq 𝒱₀ (c : Thread nD τ) none Set.univ) (Set.mem_univ _) () (O := Orem c a) (W := W) (R := 0) (m := 0) (T := ∅)
      (by rw [Nat.zero_add, expect_recv])) $$ [Hc Ho Hat]
  · isplitr; · iexact HIv
    isplitl [Hc]; · iexact Hc
    isplitl [Ho]; · iexact Ho
    isplitr; · iapply hw; iexact Hrec
    iexact Hat
  iintro ⟨Ho, Hat, -, Hpay⟩
  ihave HX := (Entails.of_eq (rest_recv m c k)) $$ Hpay
  imod (Rounds.cell_close ER (Rd m) (Set.mem_univ (K (c, some (true, k)))) (fun h => h) (R := 0 + 1) (duties_later m (recvCell c k))) $$ [Hat] with Hz
  · isplitr; · iexact HIv
    iexact Hat
  iapply h
  isplitr; · iexact Hrec
  isplitl [HR]; · iexact HR
  isplitl [Ho]; · iexists _; iexact Ho
  isplitl [HS]; · iexact HS
  iapply Hback
  isplitl [HX] <;> iassumption

/-- Waiting at the end for the transfer of slot `k` to be out: the send slot is back. -/
theorem step_done {R : sProp 𝕄} {Q : α → sProp 𝕄} (k : Fin 24) {hsrc : (rSq k).view.WordExact} {hdst : (sSq k).view.WordExact} {cont : PUnit → Prog (TpuEff nD τ sig (Elt F) Λ₀ .tc) α}
    (h : St m K c R 24 24 24 (k.val + 1) ⊢ Runs c (cont ⟨⟩) Q) :
    St m K c R 24 24 24 k.val ⊢ Runs c (.op (.waitDma2 (sendQ k) (rSq k) (sSq k) hsrc hdst) cont) Q := by
  have hs := sStat_turn (m := m) (s := 24) (a := 24) (d := k.val) c k (s' := 24) (a' := 24) (d' := k.val + 1)
    (fun j hj => sStat_congr c j (by have : j.val ≠ k.val := fun e => hj (Fin.ext e); omega) Iff.rfl Iff.rfl)
  rw [sStat_sent c k k.isLt le_rfl, sStat_back c k (Nat.lt_succ_self _)] at hs
  unfold St at h ⊢
  rw [Orem_end] at h ⊢
  iintro ⟨#Hrec, HR, ⟨%W, Ho⟩, HS, HV⟩
  ihave HS' := hs $$ HS
  icases HS' with ⟨⟨Hat, Hc⟩, Hback⟩
  ihave Hv := (records_send m K c k) $$ Hrec
  icases Hv with ⟨#HIv, #Hrv⟩
  iapply (Rounds.wp_wait_rest_token 𝒱₀ ER (Rd m) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_send])) $$ [Hc Ho Hat]
  · isplitr; · iexact HIv
    isplitl [Hc]; · iexact Hc
    isplitl [Ho]; · iexact Ho
    isplitr; · rw [MayWait_zero]; iempintro
    iexact Hat
  iintro ⟨Ho, Hat, -, Hpay⟩
  ihave HX := (Entails.of_eq (rest_send m c k)) $$ Hpay
  imod (Rounds.cell_close ER (Rd m) (Set.mem_univ (K (c, some (false, k)))) (fun h => h) (R := 0 + 1) (duties_later m (sendCell c k))) $$ [Hat] with Hz
  · isplitr; · iexact HIv
    iexact Hat
  iapply h
  isplitr; · iexact Hrec
  isplitl [HR]; · iexact HR
  isplitl [Ho]; · iexists _; iexact Ho
  isplitl [Hback HX Hz]
  · iapply Hback
    isplitl [HX]; · unfold sAny; iexists _; iexact HX
    iexact Hz
  · iexact HV

end Steps

end Cert.KernelIdealRun

end
-- ==== Proof.KernelIdealRun.Entry.lean ====
/-
# The other steps: the barrier at the entry, the operands, the result

At the entry a device signals its four partners, handing each the receive slots it will write, and waits for their four
signals; with them it has every slot it will write. What it reads of its operands and writes of its result the exchange does
not touch.
-/
module

public import proofs.«01_k».proof.Proof.KernelIdealRun.Steps

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The barrier -/

/-- What device `c` hands its partner under mask `j` at the entry. -/
def greet (c : Dev nD) (j : Fin 4) : sProp 𝕄 := iprop(dutyTok ER (barCell (px j c)) 0 j ∗ barPay (px j c) j)

/-- Before the barrier, the partners of the masks before `j` greeted. -/
def Bst (c : Dev nD) (R : sProp 𝕄) (j : ℕ) : sProp 𝕄 :=
  iprop(records m K ∗ R ∗ (∃ W, owes (c : Thread nD τ) (Obar c j) W)
    ∗ (bigSep Finset.univ fun d : Fin 4 => if j ≤ d.val then greet c d else iprop(emp))
    ∗ atPos ER (barCell c) 0 ∅ 0 ∗ cred (tallyAt (barCell c) () 4)
    ∗ (bigSep Finset.univ fun k : Fin 24 => iprop(sAny c k ∗ dutyTok ER (sendCell c k) 0 0 ∗ dutyTok ER (recvCell (par k c) k) 0 0 ∗ atPos ER (sendCell c k) 0 ∅ 0))
    ∗ (bigSep Finset.univ fun k : Fin 24 => rStat m c 0 k))

omit [FloatOps F] in
/-- The receive slots of a device, grouped by the mask they are written under. -/
theorem rAny_grouped (c : Dev nD) : (bigSep Finset.univ fun k : Fin 24 => rAny (F := F) c k) ⊢ bigSep Finset.univ fun j : Fin 4 => barPay (px j c) j := by
  unfold barPay
  simp only [px_px]
  rw [bigSep_univ_comm]
  refine bigSep_mono fun k _ => ?_
  have he : bigSep (Finset.univ.erase (jOf k)) (fun _ => (iprop(emp) : sProp 𝕄)) = iprop(emp) := bigSep_emp_const _
  rw [bigSep_univ_at _ (jOf k), if_pos rfl, bigSep_congr (Ψ := fun _ => iprop(emp)) (s := Finset.univ.erase (jOf k))
    fun d hd => if_neg fun h => Finset.ne_of_mem_erase hd h.symm, he]
  show (rAny c k : sProp 𝕄) ⊢ iprop(rAny c k ∗ emp)
  iintro H
  isplitl; · iexact H
  iempintro

variable {m K}
variable {c : Dev nD} {α : Type}

/-- Greeting the partner under mask `j`. -/
theorem step_signal {R : sProp 𝕄} {Q : α → sProp 𝕄} (j : Fin 4) {n : Dev nD} {k' : ℕ} (hn : n = px j c) (hk : 1 = k')
    {cont : PUnit → Prog (TpuEff nD τ sig (Elt F) Λ₀ .tc) α}
    (h : Bst m K c R (j.val + 1) ⊢ Runs c (cont ⟨⟩) Q) :
    Bst m K c R j.val ⊢ Runs c (.op (.semSignal (Dev.tc n : Thread nD τ) barS k') cont) Q := by
  subst hn hk
  have hs : (bigSep Finset.univ fun d : Fin 4 => if j.val ≤ d.val then greet (F := F) c d else iprop(emp))
      ⊢ iprop(greet c j ∗ bigSep Finset.univ fun d : Fin 4 => if j.val + 1 ≤ d.val then greet (F := F) c d else iprop(emp)) := by
    rw [bigSep_univ_at _ j, bigSep_univ_at (fun d : Fin 4 => if j.val + 1 ≤ d.val then greet (F := F) c d else iprop(emp)) j,
      if_pos le_rfl, if_neg (by omega), bigSep_congr (s := Finset.univ.erase j)
        (Ψ := fun d : Fin 4 => if j.val + 1 ≤ d.val then greet (F := F) c d else iprop(emp)) fun d hd => by
          have : d.val ≠ j.val := fun e => Finset.ne_of_mem_erase hd (Fin.ext e)
          exact if_congr (by omega) rfl rfl]
    iintro ⟨H, H'⟩
    isplitl [H]; · iexact H
    isplitr; · iempintro
    iexact H'
  unfold Bst at h ⊢
  iintro ⟨#Hrec, HR, ⟨%W, Ho⟩, HG, Hrest⟩
  ihave HG' := hs $$ HG
  unfold greet
  icases HG' with ⟨⟨Ht, Hp⟩, HG⟩
  ihave Hb := (records_bar m K (px j c)) $$ Hrec
  icases Hb with ⟨#HI, #Hr⟩
  iapply (Rounds.wp_signal 𝒱₀ ER (Rd m) (c : Thread nD τ) none (dst := (px j c : Thread nD τ)) (κ := K (px j c, none))
      (d := j) (by rw [duties_bar]; exact Finset.mem_univ _) (amount_bar m (px j c) j) () (Obar c (j.val + 1)) (Obar_step c j) (W := W))
    $$ [Ho Ht Hp]
  · isplitr; · iexact HI
    isplitl [Ho]; · iexact Ho
    isplitl [Ht]; · iexact Ht
    isplitl [Hp]; · rw [payload_bar m (px j c) j]; iexact Hp
    iexact Hr
  iintro Ho
  iapply h
  isplitr; · iexact Hrec
  isplitl [HR]; · iexact HR
  isplitl [Ho]; · iexists W; iexact Ho
  isplitl [HG]; · iexact HG
  iexact Hrest

/-- Waiting for the four greetings: every slot the device will write is its own now. -/
theorem step_enter {R : sProp 𝕄} {Q : α → sProp 𝕄} {k' : ℕ} (hk : 4 = k') {cont : PUnit → Prog (TpuEff nD τ sig (Elt F) Λ₀ .tc) α}
    (h : St m K c iprop(R ∗ semVal (barCell c) 0) 0 0 0 0 ⊢ Runs c (cont ⟨⟩) Q) :
    Bst m K c R 4 ⊢ Runs c (.op (.semWait barS k') cont) Q := by
  subst hk
  have hw : records m K ⊢ MayWait (c : Thread nD τ) (.reg barS) () (Orem c 0) := by
    unfold records; iintro ⟨-, H⟩; iapply (mayWait_bar c); iexact H
  have hz : (bigSep Finset.univ fun k : Fin 24 => sStat m c 0 0 0 k)
      = iprop((bigSep Finset.univ fun k : Fin 24 => iprop(sAny c k ∗ dutyTok ER (sendCell c k) 0 0 ∗ dutyTok ER (recvCell (par k c) k) 0 0 ∗ atPos ER (sendCell c k) 0 ∅ 0))
        ∗ bigSep Finset.univ fun k : Fin 24 => rAny (par k c) k) := by
    rw [← bigSep_sep']
    refine bigSep_congr fun k _ => ?_
    rw [sStat_new c k (Nat.zero_le _) (Nat.zero_le _) (Nat.zero_le _)]
    unfold toks
    apply BI.equiv_iff.mp
    constructor
    · show iprop(sAny c k ∗ dutyTok ER (sendCell c k) 0 0 ∗ dutyTok ER (recvCell (par k c) k) 0 0 ∗ rAny (par k c) k ∗ atPos ER (sendCell c k) 0 ∅ 0)
        ⊢ iprop((sAny c k ∗ dutyTok ER (sendCell c k) 0 0 ∗ dutyTok ER (recvCell (par k c) k) 0 0 ∗ atPos ER (sendCell c k) 0 ∅ 0) ∗ rAny (par k c) k)
      iintro ⟨H1, H2, H3, H4, H5⟩
      isplitr [H4]
      · isplitl [H1]; · iexact H1
        isplitl [H2]; · iexact H2
        isplitl [H3] <;> iassumption
      · iexact H4
    · show iprop((sAny c k ∗ dutyTok ER (sendCell c k) 0 0 ∗ dutyTok ER (recvCell (par k c) k) 0 0 ∗ atPos ER (sendCell c k) 0 ∅ 0) ∗ rAny (par k c) k)
        ⊢ iprop(sAny c k ∗ dutyTok ER (sendCell c k) 0 0 ∗ dutyTok ER (recvCell (par k c) k) 0 0 ∗ rAny (par k c) k ∗ atPos ER (sendCell c k) 0 ∅ 0)
      iintro ⟨⟨H1, H2, H3, H5⟩, H4⟩
      isplitl [H1]; · iexact H1
      isplitl [H2]; · iexact H2
      isplitl [H3]; · iexact H3
      isplitl [H4] <;> iassumption
  unfold Bst
  unfold St at h
  rw [Obar_end]
  iintro ⟨#Hrec, HR, ⟨%W, Ho⟩, -, Hat, Hc, HS, HV⟩
  ihave Hb := (records_bar m K c) $$ Hrec
  icases Hb with ⟨#HI, #Hr⟩
  iapply (Rounds.wp_wait_rest_token 𝒱₀ ER (Rd m) (c : Thread nD τ) none (κ := K (c, none))
      (wpE_semWait_eq 𝒱₀ (c : Thread nD τ) none Set.univ) (Set.mem_univ _) () (O := Orem c 0) (W := W) (R := 0) (m := 0) (T := ∅)
      (by rw [Nat.zero_add, expect_bar])) $$ [Hc Ho Hat]
  · isplitr; · iexact HI
    isplitl [Hc]; · iexact Hc
    isplitl [Ho]; · iexact Ho
    isplitr; · iapply hw; iexact Hrec
    iexact Hat
  iintro ⟨Ho, Hat, -, Hpay⟩
  ihave HX := (rest_bar m c) $$ Hpay
  imod (Rounds.cell_close ER (Rd m) (Set.mem_univ (K (c, none))) (fun h => h) (R := 0 + 1) (duties_later m (barCell c))) $$ [Hat] with Hz
  · isplitr; · iexact HI
    iexact Hat
  iapply h
  isplitr; · iexact Hrec
  isplitl [HR Hz]; · isplitl [HR] <;> iassumption
  isplitl [Ho]; · iexists _; iexact Ho
  isplitl [HS HX]
  · rw [hz]; isplitl [HS] <;> iassumption
  · iexact HV

/-! ## The operands and the result -/

/-- The staging buffer `b` of device `c` at `X`. -/
abbrev pts (c : Dev nD) (b : Ref sig .tc) (X : b.ty.Contents (Elt F)) : sProp 𝕄 := ((c : Thread nD τ).loc b) ↦{fullShare} X

variable (m) in
/-- The eight staging buffers of device `c`: the seven operands, and the result's at `f`. -/
def stages (c : Dev nD) (f : (cc0_stg7_0 : Ref sig .tc).ty.Contents (Elt F)) : Fin 8 → sProp 𝕄 := fun
  | 0 => pts c cc0_stg0_0 (xIn m c)
  | 1 => pts c cc0_stg1_0 (wi0 m c)
  | 2 => pts c cc0_stg2_0 (wo0 m c)
  | 3 => pts c cc0_stg3_0 (wi1 m c)
  | 4 => pts c cc0_stg4_0 (wo1 m c)
  | 5 => pts c cc0_stg5_0 (wi2 m c)
  | 6 => pts c cc0_stg6_0 (wo2 m c)
  | 7 => pts c cc0_stg7_0 f

variable (m) in
/-- What the exchange does not touch: the staging buffers and the barrier semaphore's end. -/
def Rst (c : Dev nD) (f : (cc0_stg7_0 : Ref sig .tc).ty.Contents (Elt F)) (T : sProp 𝕄) : sProp 𝕄 :=
  iprop((bigSep Finset.univ (stages m c f)) ∗ T)

theorem stages_out (f : (cc0_stg7_0 : Ref sig .tc).ty.Contents (Elt F)) : stages m c f 7 = pts c cc0_stg7_0 f := rfl

theorem Rst_at (f : (cc0_stg7_0 : Ref sig .tc).ty.Contents (Elt F)) (T : sProp 𝕄) (w : Fin 8) :
    Rst m c f T ⊢ iprop(stages m c f w ∗ (stages m c f w -∗ Rst m c f T)) := by
  have h : bigSep Finset.univ (stages m c f) ⊢ iprop(stages m c f w ∗ (stages m c f w -∗ bigSep Finset.univ (stages m c f))) :=
    bigSep_univ_update w fun _ _ => rfl
  unfold Rst
  iintro ⟨H, HT⟩
  ihave H' := h $$ H
  icases H' with ⟨Hw, Hb⟩
  isplitl [Hw]; · iexact Hw
  iintro Hw
  isplitr [HT]
  · iapply Hb; iexact Hw
  · iexact HT

theorem Rst_out (f f' : (cc0_stg7_0 : Ref sig .tc).ty.Contents (Elt F)) (T : sProp 𝕄) :
    Rst m c f T ⊢ iprop(pts c cc0_stg7_0 f ∗ (pts c cc0_stg7_0 f' -∗ Rst m c f' T)) := by
  have h : bigSep Finset.univ (stages m c f) ⊢ iprop(stages m c f 7 ∗ (stages m c f' 7 -∗ bigSep Finset.univ (stages m c f'))) :=
    bigSep_univ_update 7 fun j hj => match j, hj with
    | 0, _ => rfl | 1, _ => rfl | 2, _ => rfl | 3, _ => rfl | 4, _ => rfl | 5, _ => rfl | 6, _ => rfl | 7, h => absurd rfl h
  rw [stages_out, stages_out] at h
  unfold Rst
  iintro ⟨H, HT⟩
  ihave H' := h $$ H
  icases H' with ⟨Hw, Hb⟩
  isplitl [Hw]; · iexact Hw
  iintro Hw
  isplitr [HT]
  · iapply Hb; iexact Hw
  · iexact HT

/-- Loading from a staging buffer held at `X`. -/
theorem step_load {R : sProp 𝕄} {Q : α → sProp 𝕄} {cs : CoreSpace} {sh : Shape} {e : EltTy} {M : Memref sig .tc cs sh e} {X : Buf (Elt F) (M.view.loc (c : Thread nD τ))}
    {r : LoadRect sh} {hl : M.view.LoadsAt r}
    {cont : (r.shape.Idx → Elt F e) → Prog (TpuEff nD τ sig (Elt F) Λ₀ .tc) α} {s a bb d : ℕ}
    (hR : R ⊢ iprop((M.view.loc (c : Thread nD τ) ↦{fullShare} X) ∗ ((M.view.loc (c : Thread nD τ) ↦{fullShare} X) -∗ R))) (v : r.shape.Idx → Elt F e) (hv : M.view.readAt (Elt F) r X = v)
    (h : St m K c R s a bb d ⊢ Runs c (cont v) Q) :
    St m K c R s a bb d ⊢ Runs c (.op (.load M r hl) cont) Q := by
  subst hv
  unfold St at h ⊢
  iintro ⟨#Hrec, HR, Hrest⟩
  ihave HR' := hR $$ HR
  icases HR' with ⟨Hp, Hb⟩
  iapply (wp_load 𝒱₀ (c : Thread nD τ) none Set.univ (m := M) (r := r) (hl := hl) (f := X) (S := Finset.univ) (Finset.subset_univ _)) $$ Hp
  iintro Hp
  iapply h
  isplitr; · iexact Hrec
  isplitl [Hb Hp]; · iapply Hb; iexact Hp
  iexact Hrest

/-- Storing into the result's staging buffer. -/
theorem step_put {Q : α → sProp 𝕄} {T : sProp 𝕄} {f : (cc0_stg7_0 : Ref sig .tc).ty.Contents (Elt F)} {r : Rect S256x256} {w : r.shape.Idx → Elt F .f32}
    {hx : ((Memref.whole cc0_stg7_0).access r).Stores Finset.univ} {hm}
    {cont : PUnit → Prog (TpuEff nD τ sig (Elt F) Λ₀ .tc) α} {s a b d : ℕ}
    (h : St m K c (Rst m c (((Memref.whole cc0_stg7_0).access r).write (Elt F) f w Finset.univ) T) s a b d ⊢ Runs c (cont ⟨⟩) Q) :
    St m K c (Rst m c f T) s a b d ⊢ Runs c (.op (.store (Memref.whole cc0_stg7_0) r w Finset.univ hx hm) cont) Q := by
  have hR := Rst_out (m := m) (c := c) f (((Memref.whole cc0_stg7_0).access r).write (Elt F) f w Finset.univ) T
  unfold St at h ⊢
  iintro ⟨#Hrec, HR, Hrest⟩
  ihave HR' := hR $$ HR
  icases HR' with ⟨Hp, Hb⟩
  iapply (wp_store 𝒱₀ (c : Thread nD τ) none Set.univ (m := Memref.whole cc0_stg7_0) (r := r) (w := w) (Mk := Finset.univ) (hx := hx) (hm := hm) (f := f)
    (S := Finset.univ) (Finset.subset_univ _)) $$ Hp
  iintro Hp
  iapply h
  isplitr; · iexact Hrec
  isplitl [Hb Hp]; · iapply Hb; iexact Hp
  iexact Hrest

end Cert.KernelIdealRun

end
-- ==== Proof.KernelIdealRun.Body.lean ====
/-
# What one device's program does, from the barrier to the last wait

The program is a chain of parts; each lemma below runs one of them, from the counts and partial results it finds to those it
leaves to the next. Of the words a part hands on nothing is claimed: they name no device and no slot.
-/
module

public import proofs.«01_k».proof.Proof.KernelIdealRun.Entry
public import proofs.«01_k».proof.Proof.Gen.KernelIdeal.Skeleton

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part at the launch's buffers and semaphores. -/
abbrev onBufs {X : Sort*}
    (p : (a0 : Memref sig .tc .vmem S256x256 .bf16) → a0.IsWhole → (a1 : Memref sig .tc .vmem S256x512 .bf16) → a1.IsWhole
      → (a2 : Memref sig .tc .vmem S512x256 .bf16) → a2.IsWhole → (a3 : Memref sig .tc .vmem S256x512 .bf16) → a3.IsWhole
      → (a4 : Memref sig .tc .vmem S512x256 .bf16) → a4.IsWhole → (a5 : Memref sig .tc .vmem S256x512 .bf16) → a5.IsWhole
      → (a6 : Memref sig .tc .vmem S512x256 .bf16) → a6.IsWhole → (a7 : Memref sig .tc .vmem S256x256 .f32) → a7.IsWhole
      → (a8 : Memref sig .tc .vmem S24x128x256 .bf16) → a8.IsWhole → (a9 : Memref sig .tc .vmem S24x128x256 .bf16) → a9.IsWhole
      → DmaSems sig S24 → DmaSems sig S24 → X) : X :=
  p (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    cc0_scratch2 cc0_scratch3

variable {m : (ℓ : Loc nD τ sig) → Buf (Elt F) ℓ} {K : Dev nD × CI → ℕ} {c : Dev nD} {β : Type}

/-- Making a slot ready: the message goes over whatever the slot held. -/
theorem step_fill {R : sProp 𝕄} {Q : β → sProp 𝕄} (k : Fin 24) {hl : sM.view.LoadsAt (slotR k).toLoadRect} {w : S1x128x256.Idx → Elt F .bf16}
    {hx : (sM.access (slotR k)).Stores Finset.univ} {hm} {cont : PUnit → Prog (TpuEff nD τ sig (Elt F) Λ₀ .tc) β} {a b : ℕ} (ha : a ≤ k.val)
    (hw : w = msg m k.val c) (h : St m K c R (k.val + 1) a b 0 ⊢ Runs c (cont ⟨⟩) Q) :
    St m K c R k.val a b 0 ⊢ Runs c (.op (.load sM (slotR k).toLoadRect hl) fun _ => .op (.store sM (slotR k) w Finset.univ hx hm) cont) Q :=
  step_peek k ha fun _ => step_store k ha hw h

/-- Waiting for a slot and reading it. -/
theorem step_take {R : sProp 𝕄} {Q : β → sProp 𝕄} (k : Fin 24) {hsrc : (sSq k).view.WordExact} {hdst : (rSq k).view.WordExact}
    {hl : rM.view.LoadsAt (slotR k).toLoadRect}
    {cont : ((slotR k).toLoadRect.shape.Idx → Elt F .bf16) → Prog (TpuEff nD τ sig (Elt F) Λ₀ .tc) β} {s a d : ℕ} (ha : k.val < a)
    (h : St m K c R s a (k.val + 1) d ⊢ Runs c (cont (msg m k.val (par k c))) Q) :
    St m K c R s a k.val d ⊢ Runs c (.op (.waitDma2 (recvQ k) (sSq k) (rSq k) hsrc hdst) fun _ => .op (.load rM (slotR k).toLoadRect hl) cont) Q :=
  step_recv k ha (step_fetch k h)

theorem val_zero : val m 0 c = layer (shapeCast S128x256 (xA m c) shapeCasts_S128x256_S128x256) (wi0 m c) (wo0 m c) := rfl
theorem val_one : val m 1 c = layer (shapeCast S128x256 (xB m c) shapeCasts_S128x256_S128x256) (wi0 m c) (wo0 m c) := rfl

theorem zz2 : (![0, 0] : Fin 2 → ℕ) = fun _ => 0 := by decide

attribute [local irreducible] val

/-- The greetings, the barrier, and the operands of the first layer's first chunk. -/
theorem run1 {g : (cc0_stg7_0 : Ref sig .tc).ty.Contents (Elt F)} {Q : β → sProp 𝕄} {f : _ → Prog (TpuEff nD τ sig (Elt F) Λ₀ .tc) β}
    (h : ∀ u1 u2 u3, u2 = k0_pay1 (xA m c) (wi0 m c) → u3 = k0_pay2 (wo0 m c) → St m K c (Rst m c g (semVal (barCell c) 0)) 0 0 0 0 ⊢ Runs c (f ⟨c, u1, u2, u3⟩) Q) :
    Bst m K c (bigSep Finset.univ (stages m c g)) 0 ⊢ Runs c (onBufs k0_part1  >>= f) Q := by
  rw [k0_part1_eq_skeleton]
  simp only [onBufs, k0_part1_skel, semSignalWord, semWaitWord, Prog.lift, Prog.bind_op, Prog.bind_ret, Prog.pure_eq_ret, wp_deviceId]
  refine step_signal 0 (Fin.ext (barDev_eq 0 c)) rfl ?_
  refine step_signal 1 (Fin.ext (barDev_eq 1 c)) rfl ?_
  refine step_signal 2 (Fin.ext (barDev_eq 2 c)) rfl ?_
  refine step_signal 3 (Fin.ext (barDev_eq 3 c)) rfl ?_
  refine step_enter rfl ?_
  show St m K c (Rst m c g (semVal (barCell c) 0)) 0 0 0 0 ⊢ _
  refine step_load (Rst_at _ _ 0) (xA m c) rfl ?_
  refine step_load (Rst_at _ _ 1) (wi0 m c) (Memref.readAt_unit_zero (Elt F) _ zz2 _ _) ?_
  refine step_load (Rst_at _ _ 2) (wo0 m c) (Memref.readAt_unit_zero (Elt F) _ zz2 _ _) ?_
  exact h _ _ _ rfl rfl

/-- Slot 0 made ready and sent; the second chunk's first layer. -/
theorem run2 {T : sProp 𝕄} {g : (cc0_stg7_0 : Ref sig .tc).ty.Contents (Elt F)} {Q : β → sProp 𝕄} {f : _ → Prog (TpuEff nD τ sig (Elt F) Λ₀ .tc) β} {v2} {v23 v25}
    (e23 : v23 = k0_pay1 (xA m c) (wi0 m c)) (e25 : v25 = k0_pay2 (wo0 m c)) (h : ∀ u0 u1 u2 u3, u0 = val m 0 c → u2 = val m 1 c → u3 = msg m 1 c → St m K c (Rst m c g T) 1 1 0 0 ⊢ Runs c (f ⟨u0, u1, u2, u3⟩) Q) :
    St m K c (Rst m c g T) 0 0 0 0 ⊢ Runs c (onBufs k0_part2 c v2 v23 v25 >>= f) Q := by
  subst e23 e25
  rw [k0_part2_eq_skeleton]
  simp only [onBufs, k0_part2_skel, Prog.lift, Prog.bind_op, Prog.bind_ret, Prog.pure_eq_ret]
  refine step_fill 0 (by decide) (congrArg pack val_zero.symm) ?_
  refine step_send 0 (Fin.ext (slotDev_eq 0 c)) ?_
  refine step_load (Rst_at _ _ 0) (xB m c) rfl ?_
  refine step_load (Rst_at _ _ 1) (wi0 m c) (Memref.readAt_unit_zero (Elt F) _ zz2 _ _) ?_
  refine step_load (Rst_at _ _ 2) (wo0 m c) (Memref.readAt_unit_zero (Elt F) _ zz2 _ _) ?_
  refine step_peek 1 (by decide) fun _ => ?_
  exact h _ _ _ _ val_zero.symm val_one.symm (congrArg pack val_one.symm)

/-- Slot 1 sent, slot 0 received and added, slot 2 made ready. -/
theorem run3 {R : sProp 𝕄} {Q : β → sProp 𝕄} {f : _ → Prog (TpuEff nD τ sig (Elt F) Λ₀ .tc) β} {v2 v31} {v26 v56}
    (e26 : v26 = val m 0 c) (e56 : v56 = msg m 1 c) (h : ∀ u0 u1 u2, u1 = val m 2 c → St m K c R 3 2 1 0 ⊢ Runs c (f ⟨u0, u1, u2⟩) Q) :
    St m K c R 1 1 0 0 ⊢ Runs c (onBufs k0_part3 c v2 v26 v31 v56 >>= f) Q := by
  subst e26 e56
  rw [k0_part3_eq_skeleton]
  simp only [onBufs, k0_part3_skel, Prog.lift, Prog.bind_op, Prog.bind_ret, Prog.pure_eq_ret]
  refine step_store 1 (by decide) (rfl) ?_
  refine step_send 1 (Fin.ext (slotDev_eq 1 c)) ?_
  refine step_take 0 (by decide) ?_
  refine step_fill 2 (by decide) (congrArg pack (val_acc m (k := 0) (by decide) (by decide) c).symm) ?_
  exact h _ _ _ (val_acc m (k := 0) (by decide) (by decide) c).symm

/-- Slot 2 sent, slot 1 received and added, slot 3 made ready. -/
theorem run4 {R : sProp 𝕄} {Q : β → sProp 𝕄} {f : _ → Prog (TpuEff nD τ sig (Elt F) Λ₀ .tc) β} {v2 v57 v84} {v52}
    (e52 : v52 = val m 1 c) (h : ∀ u0 u1, u0 = val m 3 c → St m K c R 4 3 2 0 ⊢ Runs c (f ⟨u0, u1⟩) Q) :
    St m K c R 3 2 1 0 ⊢ Runs c (onBufs k0_part4 c v2 v52 v57 v84 >>= f) Q := by
  subst e52
  rw [k0_part4_eq_skeleton]
  simp only [onBufs, k0_part4_skel, Prog.lift, Prog.bind_op, Prog.bind_ret, Prog.pure_eq_ret]
  refine step_send 2 (Fin.ext (slotDev_eq 2 c)) ?_
  refine step_take 1 (by decide) ?_
  refine step_fill 3 (by decide) (congrArg pack (val_acc m (k := 1) (by decide) (by decide) c).symm) ?_
  exact h _ _ (val_acc m (k := 1) (by decide) (by decide) c).symm

/-- Slot 3 sent, slot 2 received and added, slot 4 made ready. -/
theorem run5 {R : sProp 𝕄} {Q : β → sProp 𝕄} {f : _ → Prog (TpuEff nD τ sig (Elt F) Λ₀ .tc) β} {v2 v84 v111} {v79}
    (e79 : v79 = val m 2 c) (h : ∀ u0 u1 u2, u0 = val m 4 c → St m K c R 5 4 3 0 ⊢ Runs c (f ⟨u0, u1, u2⟩) Q) :
    St m K c R 4 3 2 0 ⊢ Runs c (onBufs k0_part5 c v2 v79 v84 v111 >>= f) Q := by
  subst e79
  rw [k0_part5_eq_skeleton]
  simp only [onBufs, k0_part5_skel, Prog.lift, Prog.bind_op, Prog.bind_ret, Prog.pure_eq_ret]
  refine step_send 3 (Fin.ext (slotDev_eq 3 c)) ?_
  refine step_take 2 (by decide) ?_
  refine step_fill 4 (by decide) (congrArg pack (val_acc m (k := 2) (by decide) (by decide) c).symm) ?_
  exact h _ _ _ (val_acc m (k := 2) (by decide) (by decide) c).symm

/-- Slot 4 sent, slot 3 received and added, slot 5 made ready. -/
theorem run6 {R : sProp 𝕄} {Q : β → sProp 𝕄} {f : _ → Prog (TpuEff nD τ sig (Elt F) Λ₀ .tc) β} {v2 v111 v139} {v106}
    (e106 : v106 = val m 3 c) (h : ∀ u0 u1, u0 = val m 5 c → St m K c R 6 5 4 0 ⊢ Runs c (f ⟨u0, u1⟩) Q) :
    St m K c R 5 4 3 0 ⊢ Runs c (onBufs k0_part6 c v2 v106 v111 v139 >>= f) Q := by
  subst e106
  rw [k0_part6_eq_skeleton]
  simp only [onBufs, k0_part6_skel, Prog.lift, Prog.bind_op, Prog.bind_ret, Prog.pure_eq_ret]
  refine step_send 4 (Fin.ext (slotDev_eq 4 c)) ?_
  refine step_take 3 (by decide) ?_
  refine step_fill 5 (by decide) (congrArg pack (val_acc m (k := 3) (by decide) (by decide) c).symm) ?_
  exact h _ _ (val_acc m (k := 3) (by decide) (by decide) c).symm

/-- Slot 5 sent, slot 4 received and added, slot 6 made ready. -/
theorem run7 {R : sProp 𝕄} {Q : β → sProp 𝕄} {f : _ → Prog (TpuEff nD τ sig (Elt F) Λ₀ .tc) β} {v2 v138} {v133}
    (e133 : v133 = val m 4 c) (h : ∀ u0 u1, u0 = val m 6 c → St m K c R 7 6 5 0 ⊢ Runs c (f ⟨u0, u1⟩) Q) :
    St m K c R 6 5 4 0 ⊢ Runs c (onBufs k0_part7 c v2 v133 v138 >>= f) Q := by
  subst e133
  rw [k0_part7_eq_skeleton]
  simp only [onBufs, k0_part7_skel, Prog.lift, Prog.bind_op, Prog.bind_ret, Prog.pure_eq_ret]
  refine step_send 5 (Fin.ext (slotDev_eq 5 c)) ?_
  refine step_take 4 (by decide) ?_
  refine step_fill 6 (by decide) (congrArg pack (val_acc m (k := 4) (by decide) (by decide) c).symm) ?_
  exact h _ _ (val_acc m (k := 4) (by decide) (by decide) c).symm

/-- Slot 6 sent, slot 5 received and added, slot 7 made ready. -/
theorem run8 {R : sProp 𝕄} {Q : β → sProp 𝕄} {f : _ → Prog (TpuEff nD τ sig (Elt F) Λ₀ .tc) β} {v2 v165} {v160}
    (e160 : v160 = val m 5 c) (h : ∀ u0 u1, u0 = val m 7 c → St m K c R 8 7 6 0 ⊢ Runs c (f ⟨u0, u1⟩) Q) :
    St m K c R 7 6 5 0 ⊢ Runs c (onBufs k0_part8 c v2 v160 v165 >>= f) Q := by
  subst e160
  rw [k0_part8_eq_skeleton]
  simp only [onBufs, k0_part8_skel, Prog.lift, Prog.bind_op, Prog.bind_ret, Prog.pure_eq_ret]
  refine step_send 6 (Fin.ext (slotDev_eq 6 c)) ?_
  refine step_take 5 (by decide) ?_
  refine step_fill 7 (by decide) (congrArg pack (val_acc m (k := 5) (by decide) (by decide) c).symm) ?_
  exact h _ _ (val_acc m (k := 5) (by decide) (by decide) c).symm

/-- Slot 7 sent, slot 6 received and added: the first chunk's second layer, ready in slot 8. -/
theorem run9 {T : sProp 𝕄} {g : (cc0_stg7_0 : Ref sig .tc).ty.Contents (Elt F)} {Q : β → sProp 𝕄} {f : _ → Prog (TpuEff nD τ sig (Elt F) Λ₀ .tc) β} {v2 v192} {v187}
    (e187 : v187 = val m 6 c) (h : ∀ u0 u1, u0 = val m 8 c → St m K c (Rst m c g T) 9 8 7 0 ⊢ Runs c (f ⟨u0, u1⟩) Q) :
    St m K c (Rst m c g T) 8 7 6 0 ⊢ Runs c (onBufs k0_part9 c v2 v187 v192 >>= f) Q := by
  subst e187
  rw [k0_part9_eq_skeleton]
  simp only [onBufs, k0_part9_skel, Prog.lift, Prog.bind_op, Prog.bind_ret, Prog.pure_eq_ret]
  refine step_send 7 (Fin.ext (slotDev_eq 7 c)) ?_
  refine step_take 6 (by decide) ?_
  refine step_load (Rst_at _ _ 3) (wi1 m c) (Memref.readAt_unit_zero (Elt F) _ zz2 _ _) ?_
  refine step_load (Rst_at _ _ 4) (wo1 m c) (Memref.readAt_unit_zero (Elt F) _ zz2 _ _) ?_
  refine step_fill 8 (by decide) (congrArg pack (val_layer1 m (k := 6) (by decide) (by decide) c).symm) ?_
  exact h _ _ (val_layer1 m (k := 6) (by decide) (by decide) c).symm

/-- Slot 8 sent, slot 7 received and added, and the hidden units of the second chunk's second layer. -/
theorem run10 {T : sProp 𝕄} {g : (cc0_stg7_0 : Ref sig .tc).ty.Contents (Elt F)} {Q : β → sProp 𝕄} {f : _ → Prog (TpuEff nD τ sig (Elt F) Λ₀ .tc) β} {v219 v256} {v214}
    (e214 : v214 = val m 7 c) (h : ∀ u0 u1, u0 = k0_pay21 (val m 7 c) (msg m 7 (par 7 c)) (wi1 m c) → u1 = wo1 m c → St m K c (Rst m c g T) 9 9 8 0 ⊢ Runs c (f ⟨u0, u1⟩) Q) :
    St m K c (Rst m c g T) 9 8 7 0 ⊢ Runs c (onBufs k0_part10 c v214 v219 v256 >>= f) Q := by
  subst e214
  rw [k0_part10_eq_skeleton]
  simp only [onBufs, k0_part10_skel, Prog.lift, Prog.bind_op, Prog.bind_ret, Prog.pure_eq_ret]
  refine step_send 8 (Fin.ext (slotDev_eq 8 c)) ?_
  refine step_take 7 (by decide) ?_
  refine step_load (Rst_at _ _ 3) (wi1 m c) (Memref.readAt_unit_zero (Elt F) _ zz2 _ _) ?_
  refine step_load (Rst_at _ _ 4) (wo1 m c) (Memref.readAt_unit_zero (Elt F) _ zz2 _ _) ?_
  exact h _ _ rfl rfl

/-- Slot 9 made ready and sent, slot 8 received and added. -/
theorem run11 {R : sProp 𝕄} {Q : β → sProp 𝕄} {f : _ → Prog (TpuEff nD τ sig (Elt F) Λ₀ .tc) β} {v2 v256} {v251 v285 v286}
    (e251 : v251 = val m 8 c) (e285 : v285 = k0_pay21 (val m 7 c) (msg m 7 (par 7 c)) (wi1 m c)) (e286 : v286 = wo1 m c) (h : ∀ u0 u1 u2, u0 = val m 9 c → u2 = val m 10 c → St m K c R 10 10 9 0 ⊢ Runs c (f ⟨u0, u1, u2⟩) Q) :
    St m K c R 9 9 8 0 ⊢ Runs c (onBufs k0_part11 c v2 v251 v256 v285 v286 >>= f) Q := by
  subst e251 e285 e286
  rw [k0_part11_eq_skeleton]
  simp only [onBufs, k0_part11_skel, Prog.lift, Prog.bind_op, Prog.bind_ret, Prog.pure_eq_ret]
  refine step_fill 9 (by decide) (congrArg pack (val_layer1 m (k := 7) (by decide) (by decide) c).symm) ?_
  refine step_send 9 (Fin.ext (slotDev_eq 9 c)) ?_
  refine step_take 8 (by decide) ?_
  exact h _ _ _ (val_layer1 m (k := 7) (by decide) (by decide) c).symm (val_acc m (k := 8) (by decide) (by decide) c).symm

/-- Slot 10 made ready and sent, slot 9 received and added. -/
theorem run12 {R : sProp 𝕄} {Q : β → sProp 𝕄} {f : _ → Prog (TpuEff nD τ sig (Elt F) Λ₀ .tc) β} {v2 v293} {v288 v315}
    (e288 : v288 = val m 9 c) (e315 : v315 = val m 10 c) (h : ∀ u0 u1 u2, u1 = val m 11 c → u2 = truncf .bf16 (val m 11 c) bitsLt_bf16_f32 → St m K c R 11 11 10 0 ⊢ Runs c (f ⟨u0, u1, u2⟩) Q) :
    St m K c R 10 10 9 0 ⊢ Runs c (onBufs k0_part12 c v2 v288 v293 v315 >>= f) Q := by
  subst e288 e315
  rw [k0_part12_eq_skeleton]
  simp only [onBufs, k0_part12_skel, Prog.lift, Prog.bind_op, Prog.bind_ret, Prog.pure_eq_ret]
  refine step_fill 10 (by decide) (rfl) ?_
  refine step_send 10 (Fin.ext (slotDev_eq 10 c)) ?_
  refine step_take 9 (by decide) ?_
  exact h _ _ _ (val_acc m (k := 9) (by decide) (by decide) c).symm (congrArg (fun x => truncf .bf16 x bitsLt_bf16_f32) (val_acc m (k := 9) (by decide) (by decide) c).symm)

/-- Slot 11 made ready and sent, slot 10 received and added. -/
theorem run13 {R : sProp 𝕄} {Q : β → sProp 𝕄} {f : _ → Prog (TpuEff nD τ sig (Elt F) Λ₀ .tc) β} {v2 v320} {v315 v343}
    (e315 : v315 = val m 10 c) (e343 : v343 = truncf .bf16 (val m 11 c) bitsLt_bf16_f32) (h : ∀ u0 u1 u2, u1 = val m 12 c → u2 = truncf .bf16 (val m 12 c) bitsLt_bf16_f32 → St m K c R 12 12 11 0 ⊢ Runs c (f ⟨u0, u1, u2⟩) Q) :
    St m K c R 11 11 10 0 ⊢ Runs c (onBufs k0_part13 c v2 v315 v320 v343 >>= f) Q := by
  subst e315 e343
  rw [k0_part13_eq_skeleton]
  simp only [onBufs, k0_part13_skel, Prog.lift, Prog.bind_op, Prog.bind_ret, Prog.pure_eq_ret]
  refine step_fill 11 (by decide) (rfl) ?_
  refine step_send 11 (Fin.ext (slotDev_eq 11 c)) ?_
  refine step_take 10 (by decide) ?_
  refine step_peek 12 (by decide) fun _ => ?_
  exact h _ _ _ (val_acc m (k := 10) (by decide) (by decide) c).symm (congrArg (fun x => truncf .bf16 x bitsLt_bf16_f32) (val_acc m (k := 10) (by decide) (by decide) c).symm)

/-- Slot 12 sent, slot 11 received and added, slot 13 made ready. -/
theorem run14 {R : sProp 𝕄} {Q : β → sProp 𝕄} {f : _ → Prog (TpuEff nD τ sig (Elt F) Λ₀ .tc) β} {v2 v347} {v342 v370}
    (e342 : v342 = val m 11 c) (e370 : v370 = truncf .bf16 (val m 12 c) bitsLt_bf16_f32) (h : ∀ u0 u1 u2, u1 = val m 13 c → St m K c R 14 13 12 0 ⊢ Runs c (f ⟨u0, u1, u2⟩) Q) :
    St m K c R 12 12 11 0 ⊢ Runs c (onBufs k0_part14 c v2 v342 v347 v370 >>= f) Q := by
  subst e342 e370
  rw [k0_part14_eq_skeleton]
  simp only [onBufs, k0_part14_skel, Prog.lift, Prog.bind_op, Prog.bind_ret, Prog.pure_eq_ret]
  refine step_store 12 (by decide) (rfl) ?_
  refine step_send 12 (Fin.ext (slotDev_eq 12 c)) ?_
  refine step_take 11 (by decide) ?_
  refine step_fill 13 (by decide) (congrArg pack (val_acc m (k := 11) (by decide) (by decide) c).symm) ?_
  exact h _ _ _ (val_acc m (k := 11) (by decide) (by decide) c).symm

/-- Slot 13 sent, slot 12 received and added, slot 14 made ready. -/
theorem run15 {R : sProp 𝕄} {Q : β → sProp 𝕄} {f : _ → Prog (TpuEff nD τ sig (Elt F) Λ₀ .tc) β} {v2 v374 c1} {v369}
    (e369 : v369 = val m 12 c) (h : ∀ u0 u1 u2, u1 = val m 14 c → St m K c R 15 14 13 0 ⊢ Runs c (f ⟨u0, u1, u2⟩) Q) :
    St m K c R 14 13 12 0 ⊢ Runs c (onBufs k0_part15 c v2 v369 v374 c1 >>= f) Q := by
  subst e369
  rw [k0_part15_eq_skeleton]
  simp only [onBufs, k0_part15_skel, Prog.lift, Prog.bind_op, Prog.bind_ret, Prog.pure_eq_ret]
  refine step_send 13 (Fin.ext (slotDev_eq 13 c)) ?_
  refine step_take 12 (by decide) ?_
  refine step_fill 14 (by decide) (congrArg pack (val_acc m (k := 12) (by decide) (by decide) c).symm) ?_
  exact h _ _ _ (val_acc m (k := 12) (by decide) (by decide) c).symm

/-- Slot 14 sent, slot 13 received and added, slot 15 made ready. -/
theorem run16 {R : sProp 𝕄} {Q : β → sProp 𝕄} {f : _ → Prog (TpuEff nD τ sig (Elt F) Λ₀ .tc) β} {v2 v401 v428} {v396}
    (e396 : v396 = val m 13 c) (h : ∀ u0 u1 u2, u0 = val m 15 c → St m K c R 16 15 14 0 ⊢ Runs c (f ⟨u0, u1, u2⟩) Q) :
    St m K c R 15 14 13 0 ⊢ Runs c (onBufs k0_part16 c v2 v396 v401 v428 >>= f) Q := by
  subst e396
  rw [k0_part16_eq_skeleton]
  simp only [onBufs, k0_part16_skel, Prog.lift, Prog.bind_op, Prog.bind_ret, Prog.pure_eq_ret]
  refine step_send 14 (Fin.ext (slotDev_eq 14 c)) ?_
  refine step_take 13 (by decide) ?_
  refine step_fill 15 (by decide) (congrArg pack (val_acc m (k := 13) (by decide) (by decide) c).symm) ?_
  exact h _ _ _ (val_acc m (k := 13) (by decide) (by decide) c).symm

/-- Slot 15 sent, slot 14 received and added: the first chunk's third layer. -/
theorem run17 {T : sProp 𝕄} {g : (cc0_stg7_0 : Ref sig .tc).ty.Contents (Elt F)} {Q : β → sProp 𝕄} {f : _ → Prog (TpuEff nD τ sig (Elt F) Λ₀ .tc) β} {v428 v455 c1} {v423}
    (e423 : v423 = val m 14 c) (h : ∀ u0 u1, u0 = val m 16 c → u1 = truncf .bf16 (val m 16 c) bitsLt_bf16_f32 → St m K c (Rst m c g T) 16 16 15 0 ⊢ Runs c (f ⟨u0, u1⟩) Q) :
    St m K c (Rst m c g T) 16 15 14 0 ⊢ Runs c (onBufs k0_part17 c v423 v428 v455 c1 >>= f) Q := by
  subst e423
  rw [k0_part17_eq_skeleton]
  simp only [onBufs, k0_part17_skel, Prog.lift, Prog.bind_op, Prog.bind_ret, Prog.pure_eq_ret]
  refine step_send 15 (Fin.ext (slotDev_eq 15 c)) ?_
  refine step_take 14 (by decide) ?_
  refine step_load (Rst_at _ _ 5) (wi2 m c) (Memref.readAt_unit_zero (Elt F) _ zz2 _ _) ?_
  refine step_load (Rst_at _ _ 6) (wo2 m c) (Memref.readAt_unit_zero (Elt F) _ zz2 _ _) ?_
  exact h _ _ (val_layer2 m (k := 14) (by decide) (by decide) (by decide) c).symm (congrArg (fun x => truncf .bf16 x bitsLt_bf16_f32) (val_layer2 m (k := 14) (by decide) (by decide) (by decide) c).symm)

/-- Slot 16 made ready and sent, slot 15 received and added. -/
theorem run18 {T : sProp 𝕄} {g : (cc0_stg7_0 : Ref sig .tc).ty.Contents (Elt F)} {Q : β → sProp 𝕄} {f : _ → Prog (TpuEff nD τ sig (Elt F) Λ₀ .tc) β} {v2 v455} {v450 v488}
    (e450 : v450 = val m 15 c) (e488 : v488 = truncf .bf16 (val m 16 c) bitsLt_bf16_f32) (h : ∀ u0 u1 u2, u1 = k0_pay41 (val m 15 c) (msg m 15 (par 15 c)) → u2 = wi2 m c → St m K c (Rst m c g T) 17 17 16 0 ⊢ Runs c (f ⟨u0, u1, u2⟩) Q) :
    St m K c (Rst m c g T) 16 16 15 0 ⊢ Runs c (onBufs k0_part18 c v2 v450 v455 v488 >>= f) Q := by
  subst e450 e488
  rw [k0_part18_eq_skeleton]
  simp only [onBufs, k0_part18_skel, Prog.lift, Prog.bind_op, Prog.bind_ret, Prog.pure_eq_ret]
  refine step_fill 16 (by decide) (rfl) ?_
  refine step_send 16 (Fin.ext (slotDev_eq 16 c)) ?_
  refine step_take 15 (by decide) ?_
  refine step_load (Rst_at _ _ 5) (wi2 m c) (Memref.readAt_unit_zero (Elt F) _ zz2 _ _) ?_
  exact h _ _ _ rfl rfl

/-- The second chunk's third layer; slot 17 made ready and sent. -/
theorem run19 {T : sProp 𝕄} {g : (cc0_stg7_0 : Ref sig .tc).ty.Contents (Elt F)} {Q : β → sProp 𝕄} {f : _ → Prog (TpuEff nD τ sig (Elt F) Λ₀ .tc) β} {v2 v492} {v515 v516}
    (e515 : v515 = k0_pay41 (val m 15 c) (msg m 15 (par 15 c))) (e516 : v516 = wi2 m c) (h : ∀ u0 u1, u0 = val m 17 c → St m K c (Rst m c g T) 18 18 16 0 ⊢ Runs c (f ⟨u0, u1⟩) Q) :
    St m K c (Rst m c g T) 17 17 16 0 ⊢ Runs c (onBufs k0_part19 c v2 v492 v515 v516 >>= f) Q := by
  subst e515 e516
  rw [k0_part19_eq_skeleton]
  simp only [onBufs, k0_part19_skel, Prog.lift, Prog.bind_op, Prog.bind_ret, Prog.pure_eq_ret]
  refine step_load (Rst_at _ _ 6) (wo2 m c) (Memref.readAt_unit_zero (Elt F) _ zz2 _ _) ?_
  refine step_fill 17 (by decide) (congrArg pack (val_layer2 m (k := 15) (by decide) (by decide) (by decide) c).symm) ?_
  refine step_send 17 (Fin.ext (slotDev_eq 17 c)) ?_
  exact h _ _ (val_layer2 m (k := 15) (by decide) (by decide) (by decide) c).symm

/-- Slot 16 received and added, slot 18 made ready and sent, slot 17 waited for. -/
theorem run20 {R : sProp 𝕄} {Q : β → sProp 𝕄} {f : _ → Prog (TpuEff nD τ sig (Elt F) Λ₀ .tc) β} {v2 v529} {v487}
    (e487 : v487 = val m 16 c) (h : ∀ u0 u1, u0 = val m 18 c → St m K c R 19 19 18 0 ⊢ Runs c (f ⟨u0, u1⟩) Q) :
    St m K c R 18 18 16 0 ⊢ Runs c (onBufs k0_part20 c v2 v487 v529 >>= f) Q := by
  subst e487
  rw [k0_part20_eq_skeleton]
  simp only [onBufs, k0_part20_skel, Prog.lift, Prog.bind_op, Prog.bind_ret, Prog.pure_eq_ret]
  refine step_take 16 (by decide) ?_
  refine step_fill 18 (by decide) (congrArg pack (val_acc m (k := 16) (by decide) (by decide) c).symm) ?_
  refine step_send 18 (Fin.ext (slotDev_eq 18 c)) ?_
  refine step_recv 17 (by decide) ?_
  exact h _ _ (val_acc m (k := 16) (by decide) (by decide) c).symm

/-- Slot 17 added, slot 19 made ready and sent, slot 18 waited for. -/
theorem run21 {R : sProp 𝕄} {Q : β → sProp 𝕄} {f : _ → Prog (TpuEff nD τ sig (Elt F) Λ₀ .tc) β} {v2 v556} {v524}
    (e524 : v524 = val m 17 c) (h : ∀ u0 u1, u0 = val m 19 c → St m K c R 20 20 19 0 ⊢ Runs c (f ⟨u0, u1⟩) Q) :
    St m K c R 19 19 18 0 ⊢ Runs c (onBufs k0_part21 c v2 v524 v556 >>= f) Q := by
  subst e524
  rw [k0_part21_eq_skeleton]
  simp only [onBufs, k0_part21_skel, Prog.lift, Prog.bind_op, Prog.bind_ret, Prog.pure_eq_ret]
  refine step_fetch 17 ?_
  refine step_fill 19 (by decide) (congrArg pack (val_acc m (k := 17) (by decide) (by decide) c).symm) ?_
  refine step_send 19 (Fin.ext (slotDev_eq 19 c)) ?_
  refine step_recv 18 (by decide) ?_
  exact h _ _ (val_acc m (k := 17) (by decide) (by decide) c).symm

/-- Slot 18 added, slot 20 made ready and sent, slot 19 received. -/
theorem run22 {R : sProp 𝕄} {Q : β → sProp 𝕄} {f : _ → Prog (TpuEff nD τ sig (Elt F) Λ₀ .tc) β} {v2 v583} {v551}
    (e551 : v551 = val m 18 c) (h : ∀ u0 u1 u2, u0 = val m 20 c → u2 = k0_pay50 (msg m 19 (par 19 c)) → St m K c R 21 21 20 0 ⊢ Runs c (f ⟨u0, u1, u2⟩) Q) :
    St m K c R 20 20 19 0 ⊢ Runs c (onBufs k0_part22 c v2 v551 v583 >>= f) Q := by
  subst e551
  rw [k0_part22_eq_skeleton]
  simp only [onBufs, k0_part22_skel, Prog.lift, Prog.bind_op, Prog.bind_ret, Prog.pure_eq_ret]
  refine step_fetch 18 ?_
  refine step_fill 20 (by decide) (congrArg pack (val_acc m (k := 18) (by decide) (by decide) c).symm) ?_
  refine step_send 20 (Fin.ext (slotDev_eq 20 c)) ?_
  refine step_take 19 (by decide) ?_
  exact h _ _ _ (val_acc m (k := 18) (by decide) (by decide) c).symm rfl

/-- Slot 19 added, slot 21 made ready and sent, slot 20 received and added. -/
theorem run23 {R : sProp 𝕄} {Q : β → sProp 𝕄} {f : _ → Prog (TpuEff nD τ sig (Elt F) Λ₀ .tc) β} {v2 v610} {v578 v605 v631}
    (e578 : v578 = val m 19 c) (e605 : v605 = val m 20 c) (e631 : v631 = k0_pay50 (msg m 19 (par 19 c))) (h : ∀ u0 u1 u2 u3, u0 = val m 21 c → u2 = val m 22 c → u3 = truncf .bf16 (val m 22 c) bitsLt_bf16_f32 → St m K c R 22 22 21 0 ⊢ Runs c (f ⟨u0, u1, u2, u3⟩) Q) :
    St m K c R 21 21 20 0 ⊢ Runs c (onBufs k0_part23 c v2 v578 v605 v610 v631 >>= f) Q := by
  subst e578 e605 e631
  rw [k0_part23_eq_skeleton]
  simp only [onBufs, k0_part23_skel, Prog.lift, Prog.bind_op, Prog.bind_ret, Prog.pure_eq_ret]
  refine step_fill 21 (by decide) (congrArg pack (val_acc m (k := 19) (by decide) (by decide) c).symm) ?_
  refine step_send 21 (Fin.ext (slotDev_eq 21 c)) ?_
  refine step_take 20 (by decide) ?_
  exact h _ _ _ _ (val_acc m (k := 19) (by decide) (by decide) c).symm (val_acc m (k := 20) (by decide) (by decide) c).symm (congrArg (fun x => truncf .bf16 x bitsLt_bf16_f32) (val_acc m (k := 20) (by decide) (by decide) c).symm)

/-- Slot 22 made ready and sent, slot 21 received and added. -/
theorem run24 {R : sProp 𝕄} {Q : β → sProp 𝕄} {f : _ → Prog (TpuEff nD τ sig (Elt F) Λ₀ .tc) β} {v2 v637} {v632 v660}
    (e632 : v632 = val m 21 c) (e660 : v660 = truncf .bf16 (val m 22 c) bitsLt_bf16_f32) (h : ∀ u0 u1 u2 u3, u1 = val m 23 c → u2 = truncf .bf16 (val m 23 c) bitsLt_bf16_f32 → St m K c R 23 23 22 0 ⊢ Runs c (f ⟨u0, u1, u2, u3⟩) Q) :
    St m K c R 22 22 21 0 ⊢ Runs c (onBufs k0_part24 c v2 v632 v637 v660 >>= f) Q := by
  subst e632 e660
  rw [k0_part24_eq_skeleton]
  simp only [onBufs, k0_part24_skel, Prog.lift, Prog.bind_op, Prog.bind_ret, Prog.pure_eq_ret]
  refine step_fill 22 (by decide) (rfl) ?_
  refine step_send 22 (Fin.ext (slotDev_eq 22 c)) ?_
  refine step_take 21 (by decide) ?_
  refine step_peek 23 (by decide) fun _ => ?_
  exact h _ _ _ _ (val_acc m (k := 21) (by decide) (by decide) c).symm (congrArg (fun x => truncf .bf16 x bitsLt_bf16_f32) (val_acc m (k := 21) (by decide) (by decide) c).symm)

/-- Slot 23 made ready and sent, slot 22 received and added: the first chunk's result. -/
theorem run25 {R : sProp 𝕄} {Q : β → sProp 𝕄} {f : _ → Prog (TpuEff nD τ sig (Elt F) Λ₀ .tc) β} {v2 v664 v688} {v659 v687}
    (e659 : v659 = val m 22 c) (e687 : v687 = truncf .bf16 (val m 23 c) bitsLt_bf16_f32) (h : ∀ u0, u0 = val m 24 c → St m K c R 24 24 23 0 ⊢ Runs c (f u0) Q) :
    St m K c R 23 23 22 0 ⊢ Runs c (onBufs k0_part25 c v2 v659 v664 v687 v688 >>= f) Q := by
  subst e659 e687
  rw [k0_part25_eq_skeleton]
  simp only [onBufs, k0_part25_skel, Prog.lift, Prog.bind_op, Prog.bind_ret, Prog.pure_eq_ret]
  refine step_store 23 (by decide) (rfl) ?_
  refine step_send 23 (Fin.ext (slotDev_eq 23 c)) ?_
  refine step_take 22 (by decide) ?_
  exact h _ (val_last m (k := 22) (by decide) (by decide) c).symm

/-- Slot 23 received and added: both chunks' results written; the first two sends waited for. -/
theorem run26 {T : sProp 𝕄} {g : (cc0_stg7_0 : Ref sig .tc).ty.Contents (Elt F)} {Q : β → sProp 𝕄} {f : _ → Prog (TpuEff nD τ sig (Elt F) Λ₀ .tc) β} {v686 v713}
    (e686 : v686 = val m 23 c) (e713 : v713 = val m 24 c) (h : St m K c (Rst m c (((Memref.whole cc0_stg7_0).access rowsB).write (Elt F) (((Memref.whole cc0_stg7_0).access rowsA).write (Elt F) g (val m 24 c) Finset.univ) (val m 25 c) Finset.univ) T) 24 24 24 2 ⊢ Runs c (f ⟨⟩) Q) :
    St m K c (Rst m c g T) 24 24 23 0 ⊢ Runs c (onBufs k0_part26 v686 v713 >>= f) Q := by
  subst e686 e713
  rw [k0_part26_eq_skeleton]
  simp only [onBufs, k0_part26_skel, Prog.lift, Prog.bind_op, Prog.bind_ret, Prog.pure_eq_ret]
  refine step_take 23 (by decide) ?_
  refine step_load (Rst_at _ _ 7) _ rfl ?_
  refine step_put ?_
  refine step_load (Rst_at _ _ 7) _ rfl ?_
  refine step_put ?_
  refine (show k0_pay60 (val m 23 c) (msg m 23 (par 23 c)) = val m 25 c from (val_last m (k := 23) (by decide) (by decide) c).symm) ▸ ?_
  refine step_done 0 ?_
  refine step_done 1 ?_
  exact h

/-- The sends of slots 2 to 4 waited for. -/
theorem run27 {R : sProp 𝕄} {Q : β → sProp 𝕄} {f : _ → Prog (TpuEff nD τ sig (Elt F) Λ₀ .tc) β}
    (h : St m K c R 24 24 24 5 ⊢ Runs c (f ⟨⟩) Q) :
    St m K c R 24 24 24 2 ⊢ Runs c (onBufs k0_part27  >>= f) Q := by
  rw [k0_part27_eq_skeleton]
  simp only [onBufs, k0_part27_skel, Prog.lift, Prog.bind_op, Prog.bind_ret, Prog.pure_eq_ret]
  refine step_done 2 ?_
  refine step_done 3 ?_
  refine step_done 4 ?_
  exact h

/-- The sends of slots 5 to 8 waited for. -/
theorem run28 {R : sProp 𝕄} {Q : β → sProp 𝕄} {f : _ → Prog (TpuEff nD τ sig (Elt F) Λ₀ .tc) β}
    (h : St m K c R 24 24 24 9 ⊢ Runs c (f ⟨⟩) Q) :
    St m K c R 24 24 24 5 ⊢ Runs c (onBufs k0_part28  >>= f) Q := by
  rw [k0_part28_eq_skeleton]
  simp only [onBufs, k0_part28_skel, Prog.lift, Prog.bind_op, Prog.bind_ret, Prog.pure_eq_ret]
  refine step_done 5 ?_
  refine step_done 6 ?_
  refine step_done 7 ?_
  refine step_done 8 ?_
  exact h

/-- The sends of slots 9 to 12 waited for. -/
theorem run29 {R : sProp 𝕄} {Q : β → sProp 𝕄} {f : _ → Prog (TpuEff nD τ sig (Elt F) Λ₀ .tc) β}
    (h : St m K c R 24 24 24 13 ⊢ Runs c (f ⟨⟩) Q) :
    St m K c R 24 24 24 9 ⊢ Runs c (onBufs k0_part29  >>= f) Q := by
  rw [k0_part29_eq_skeleton]
  simp only [onBufs, k0_part29_skel, Prog.lift, Prog.bind_op, Prog.bind_ret, Prog.pure_eq_ret]
  refine step_done 9 ?_
  refine step_done 10 ?_
  refine step_done 11 ?_
  refine step_done 12 ?_
  exact h

/-- The sends of slots 13 to 16 waited for. -/
theorem run30 {R : sProp 𝕄} {Q : β → sProp 𝕄} {f : _ → Prog (TpuEff nD τ sig (Elt F) Λ₀ .tc) β}
    (h : St m K c R 24 24 24 17 ⊢ Runs c (f ⟨⟩) Q) :
    St m K c R 24 24 24 13 ⊢ Runs c (onBufs k0_part30  >>= f) Q := by
  rw [k0_part30_eq_skeleton]
  simp only [onBufs, k0_part30_skel, Prog.lift, Prog.bind_op, Prog.bind_ret, Prog.pure_eq_ret]
  refine step_done 13 ?_
  refine step_done 14 ?_
  refine step_done 15 ?_
  refine step_done 16 ?_
  exact h

/-- The sends of slots 17 to 19 waited for. -/
theorem run31 {R : sProp 𝕄} {Q : β → sProp 𝕄} {f : _ → Prog (TpuEff nD τ sig (Elt F) Λ₀ .tc) β}
    (h : St m K c R 24 24 24 20 ⊢ Runs c (f ⟨⟩) Q) :
    St m K c R 24 24 24 17 ⊢ Runs c (onBufs k0_part31  >>= f) Q := by
  rw [k0_part31_eq_skeleton]
  simp only [onBufs, k0_part31_skel, Prog.lift, Prog.bind_op, Prog.bind_ret, Prog.pure_eq_ret]
  refine step_done 17 ?_
  refine step_done 18 ?_
  refine step_done 19 ?_
  exact h

end Cert.KernelIdealRun

end
-- ==== Proof.KernelIdealRun.Whole.lean ====
/-
# One device's program as a whole

The parts in order, and what the result's buffer holds at the end.
-/
module

public import proofs.«01_k».proof.Proof.KernelIdealRun.Body

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The two chunks' stores leave the result in its buffer, whatever it held. -/
theorem out_eq (m : (ℓ : Loc nD τ sig) → Buf (Elt F) ℓ) (c : Dev nD) (g : (cc0_stg7_0 : Ref sig .tc).ty.Contents (Elt F)) :
    ((Memref.whole cc0_stg7_0).access rowsB).write (Elt F) (((Memref.whole cc0_stg7_0).access rowsA).write (Elt F) g (val m 24 c) Finset.univ) (val m 25 c) Finset.univ
      = outV m c := by
  funext i
  have hi : ((i : S256x256.Idx) 0).val < 256 := ((i : S256x256.Idx) 0).isLt
  by_cases h : ((i : S256x256.Idx) 0).val < 128
  · have hA : ((Memref.whole cc0_stg7_0).access rowsA).emb (at2 ⟨_, h⟩ ((i : S256x256.Idx) 1)) = i := by
      funext (a : Fin 2)
      apply Fin.ext
      match a with
      | 0 => show 0 + 1 * ((i : S256x256.Idx) 0).val = _; omega
      | 1 => show 0 + 1 * ((i : S256x256.Idx) 1).val = _; omega
    rw [View.write_of_not_mem]
    · conv_lhs => rw [← hA]
      rw [View.write_emb_of_mem _ _ (Finset.mem_univ _)]
      show val m 24 c _ = outV m c i
      unfold outV
      rw [dif_pos h]
    · intro hm
      obtain ⟨x, -, hx⟩ := Finset.mem_map.mp hm
      have := congrArg (fun j : S256x256.Idx => (j 0).val) hx
      have h' : 128 + 1 * ((x : S128x256.Idx) 0).val = ((i : S256x256.Idx) 0).val := this
      omega
  · have hB : ((Memref.whole cc0_stg7_0).access rowsB).emb (at2 ⟨((i : S256x256.Idx) 0).val - 128, by omega⟩ ((i : S256x256.Idx) 1)) = i := by
      funext (a : Fin 2)
      apply Fin.ext
      match a with
      | 0 => show 128 + 1 * (((i : S256x256.Idx) 0).val - 128) = ((i : S256x256.Idx) 0).val; omega
      | 1 => show 0 + 1 * ((i : S256x256.Idx) 1).val = _; omega
    conv_lhs => rw [← hB]
    rw [View.write_emb_of_mem _ _ (Finset.mem_univ _)]
    show val m 25 c _ = outV m c i
    unfold outV
    rw [dif_neg h]

variable {m : (ℓ : Loc nD τ sig) → Buf (Elt F) ℓ} {K : Dev nD × CI → ℕ} {c : Dev nD} {β : Type}

set_option maxRecDepth 8000 in
/-- The parts that the program's first call runs, and two more waits. -/
theorem run32 {g : (cc0_stg7_0 : Ref sig .tc).ty.Contents (Elt F)} {Q : β → sProp 𝕄} {f : _ → Prog (TpuEff nD τ sig (Elt F) Λ₀ .tc) β}
    (h : St m K c (Rst m c (outV m c) (semVal (barCell c) 0)) 24 24 24 22 ⊢ Runs c (f ⟨⟩) Q) :
    Bst m K c (bigSep Finset.univ (stages m c g)) 0 ⊢ Runs c (onBufs k0_part32 >>= f) Q := by
  rw [k0_part32_eq_skeleton]
  simp only [onBufs, k0_part32_skel, Prog.lift, Prog.bind_op, Prog.bind_ret, Prog.pure_eq_ret, Prog.bind_assoc]
  refine run1 fun _ _ _ e1 e2 => ?_
  refine run2 e1 e2 fun _ _ _ _ e1 e2 e3 => ?_
  refine run3 e1 e3 fun _ _ _ e4 => ?_
  refine run4 e2 fun _ _ e5 => ?_
  refine run5 e4 fun _ _ _ e4 => ?_
  refine run6 e5 fun _ _ e5 => ?_
  refine run7 e4 fun _ _ e4 => ?_
  refine run8 e5 fun _ _ e5 => ?_
  refine run9 e4 fun _ _ e4 => ?_
  refine run10 e5 fun _ _ e1 e2 => ?_
  refine run11 e4 e1 e2 fun _ _ _ e5 e4 => ?_
  refine run12 e5 e4 fun _ _ _ e5 e1 => ?_
  refine run13 e4 e1 fun _ _ _ e4 e1 => ?_
  refine run14 e5 e1 fun _ _ _ e5 => ?_
  refine run15 e4 fun _ _ _ e4 => ?_
  refine run16 e5 fun _ _ _ e5 => ?_
  refine run17 e4 fun _ _ e4 e1 => ?_
  refine run18 e5 e1 fun _ _ _ e1 e2 => ?_
  refine run19 e1 e2 fun _ _ e5 => ?_
  refine run20 e4 fun _ _ e4 => ?_
  refine run21 e5 fun _ _ e5 => ?_
  refine run22 e4 fun _ _ _ e4 e1 => ?_
  refine run23 e5 e4 e1 fun _ _ _ _ e5 e4 e1 => ?_
  refine run24 e5 e1 fun _ _ _ _ e5 e1 => ?_
  refine run25 e4 e1 fun _ e4 => ?_
  refine run26 e5 e4 ?_
  refine run27 ?_
  refine run28 ?_
  refine run29 ?_
  refine run30 ?_
  refine run31 ?_
  rw [out_eq]
  refine step_done 20 ?_
  refine step_done 21 ?_
  exact h

set_option maxRecDepth 8000 in
/-- The whole program, from the entry to the last wait: the result is in its buffer, and every semaphore is spent. -/
theorem run_all {g : (cc0_stg7_0 : Ref sig .tc).ty.Contents (Elt F)} {Q : PUnit → sProp 𝕄}
    (h : St m K c (Rst m c (outV m c) (semVal (barCell c) 0)) 24 24 24 24 ⊢ Q ⟨⟩) :
    Bst m K c (bigSep Finset.univ (stages m c g)) 0 ⊢ Runs c (onBufs cc0_body) Q := by
  rw [cc0_body_eq_skeleton]
  simp only [onBufs, cc0_body_skel, Prog.lift, Prog.bind_op, Prog.bind_ret, Prog.pure_eq_ret]
  refine run32 ?_
  refine step_done 22 ?_
  refine step_done 23 ?_
  exact h.trans fupd_intro

end Cert.KernelIdealRun

end
-- ==== Proof.KernelIdealRun.Slots.lean ====
/-
# The two slot buffers and their slots

A slot buffer held whole is its twenty-four slots held, and back.
-/
module

public import proofs.«01_k».proof.Proof.KernelIdealRun.Schedule

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Slot `k` is where the leading index is `k`. -/
theorem mem_slot (k : Fin 24) (i : S24x128x256.Idx) : i ∈ (slotR k).set ↔ (i 0).val = k.val := by
  rw [Rect.mem_set_unit]
  constructor
  · intro h
    have h0 : k.val ≤ (i 0).val ∧ (i 0).val < k.val + 1 := h (0 : Fin 3)
    omega
  · intro h (a : Fin 3)
    match a with
    | 0 =>
      show k.val ≤ (i 0).val ∧ (i 0).val < k.val + 1
      omega
    | 1 => exact ⟨Nat.zero_le _, by show (i 1).val < 0 + 128; have : (i 1).val < 128 := (i 1).isLt; omega⟩
    | 2 => exact ⟨Nat.zero_le _, by show (i 2).val < 0 + 256; have : (i 2).val < 256 := (i 2).isLt; omega⟩

theorem slots_disjoint (k k' : Fin 24) (h : k ≠ k') : Disjoint (slotR k).set (slotR k').set :=
  Finset.disjoint_left.mpr fun i hi hi' => h (Fin.ext (((mem_slot k i).mp hi).symm.trans ((mem_slot k' i).mp hi')))

theorem slots_cover : (Finset.univ : Finset (Fin 24)).biUnion (fun k => (slotR k).set) = Finset.univ := by
  ext i
  simp only [Finset.mem_biUnion, Finset.mem_univ, true_and, iff_true]
  exact ⟨⟨(i 0).val, (i 0).isLt⟩, (mem_slot _ i).mpr rfl⟩

/-- The buffer's contents of its slots'. -/
def glue (X : Fin 24 → S1x128x256.Idx → Elt F .bf16) : S24x128x256.Idx → Elt F .bf16 := fun i =>
  X ⟨(i 0).val, (i 0).isLt⟩ (fun (a : Fin 3) => match a with | 0 => (0 : Fin 1) | 1 => i 1 | 2 => i 2)

omit [FloatOps F] in
theorem glue_emb (X : Fin 24 → S1x128x256.Idx → Elt F .bf16) (k : Fin 24) : (fun j => glue X ((slotR k).emb j)) = X k := by
  funext j
  have hj : ((j : S1x128x256.Idx) 0).val < 1 := ((j : S1x128x256.Idx) 0).isLt
  have e0 : (⟨(((slotR k).emb j : S24x128x256.Idx) 0).val, (((slotR k).emb j : S24x128x256.Idx) 0).isLt⟩ : Fin 24) = k := Fin.ext (by
    show k.val + 1 * ((j : S1x128x256.Idx) 0).val = k.val; omega)
  unfold glue
  rw [e0]
  congr 1
  funext (a : Fin 3)
  apply Fin.ext
  match a with
  | 0 => show 0 = ((j : S1x128x256.Idx) 0).val; omega
  | 1 => show 0 + 1 * ((j : S1x128x256.Idx) 1).val = ((j : S1x128x256.Idx) 1).val; omega
  | 2 => show 0 + 1 * ((j : S1x128x256.Idx) 2).val = ((j : S1x128x256.Idx) 2).val; omega

omit [FloatOps F] in
/-- The send buffer held whole is its slots held; -/
theorem sAny_split (c : Dev nD) : (iprop(∃ f : Buf (Elt F) ((c : Thread nD τ).loc cc0_scratch0), ((c : Thread nD τ).loc cc0_scratch0) ↦{fullShare} f) : sProp 𝕄)
    ⊢ bigSep Finset.univ fun k => sAny c k := by
  iintro ⟨%f, H⟩
  have h := ((Entails.of_eq (owns_whole (c : Thread nD τ) cc0_scratch0 fullShare f).symm).trans
    (owns_rects (c : Thread nD τ) sM fullShare slotR (fun _ _ => rfl) slots_disjoint slots_cover f)
    : (((c : Thread nD τ).loc cc0_scratch0) ↦{fullShare} f : sProp 𝕄) ⊢ _)
  have h' := h.trans (bigSep_mono (Ψ := fun k => sAny c k) fun k _ => show (_ : sProp 𝕄) ⊢ iprop(∃ X, sHas c k X) from by
    iintro H; iexists _; unfold sHas; iexact H)
  iapply h'
  iexact H

/-- and back. -/
theorem sAny_join (c : Dev nD) : (bigSep Finset.univ fun k => sAny c k : sProp 𝕄)
    ⊢ iprop(∃ f : Buf (Elt F) ((c : Thread nD τ).loc cc0_scratch0), ((c : Thread nD τ).loc cc0_scratch0) ↦{fullShare} f) := by
  have hX : (bigSep Finset.univ fun k => sAny c k : sProp 𝕄) ⊢ iprop(∃ X : Fin 24 → S1x128x256.Idx → Elt F .bf16, bigSep Finset.univ fun k => sHas c k (X k)) :=
    haveI : Nonempty (S1x128x256.Idx → Elt F .bf16) := ⟨fun _ => (Elt.nonempty F .bf16).some⟩
    BI.bigSep_exists_pi Finset.univ (fun (k : Fin 24) (X : S1x128x256.Idx → Elt F .bf16) => (sHas c k X : sProp 𝕄))
  have h (X : Fin 24 → S1x128x256.Idx → Elt F .bf16) : (bigSep Finset.univ fun k => sHas c k (X k) : sProp 𝕄) ⊢ ((c : Thread nD τ).loc cc0_scratch0) ↦{fullShare} (glue X) := by
    refine BIBase.Entails.trans ?_ (BIBase.Entails.of_eq (owns_whole (c : Thread nD τ) cc0_scratch0 fullShare (glue X)))
    refine BIBase.Entails.trans (BIBase.Entails.of_eq ?_) (owns_of_rects (c : Thread nD τ) sM fullShare slotR (fun _ _ => rfl) slots_disjoint slots_cover (glue X))
    exact bigSep_congr fun k _ => by unfold sHas; rw [glue_emb X k]
  iintro H
  ihave H' := hX $$ H
  icases H' with ⟨%X, H'⟩
  iexists (glue X)
  iapply (h X)
  iexact H'

omit [FloatOps F] in
/-- The receive buffer held whole is its slots held; -/
theorem rAny_split (c : Dev nD) : (iprop(∃ f : Buf (Elt F) ((c : Thread nD τ).loc cc0_scratch1), ((c : Thread nD τ).loc cc0_scratch1) ↦{fullShare} f) : sProp 𝕄)
    ⊢ bigSep Finset.univ fun k => rAny c k := by
  iintro ⟨%f, H⟩
  have h := ((Entails.of_eq (owns_whole (c : Thread nD τ) cc0_scratch1 fullShare f).symm).trans
    (owns_rects (c : Thread nD τ) rM fullShare slotR (fun _ _ => rfl) slots_disjoint slots_cover f)
    : (((c : Thread nD τ).loc cc0_scratch1) ↦{fullShare} f : sProp 𝕄) ⊢ _)
  have h' := h.trans (bigSep_mono (Ψ := fun k => rAny c k) fun k _ => show (_ : sProp 𝕄) ⊢ iprop(∃ X, rHas c k X) from by
    iintro H; iexists _; unfold rHas; iexact H)
  iapply h'
  iexact H

/-- and back. -/
theorem rAny_join (c : Dev nD) : (bigSep Finset.univ fun k => rAny c k : sProp 𝕄)
    ⊢ iprop(∃ f : Buf (Elt F) ((c : Thread nD τ).loc cc0_scratch1), ((c : Thread nD τ).loc cc0_scratch1) ↦{fullShare} f) := by
  have hX : (bigSep Finset.univ fun k => rAny c k : sProp 𝕄) ⊢ iprop(∃ X : Fin 24 → S1x128x256.Idx → Elt F .bf16, bigSep Finset.univ fun k => rHas c k (X k)) :=
    haveI : Nonempty (S1x128x256.Idx → Elt F .bf16) := ⟨fun _ => (Elt.nonempty F .bf16).some⟩
    BI.bigSep_exists_pi Finset.univ (fun (k : Fin 24) (X : S1x128x256.Idx → Elt F .bf16) => (rHas c k X : sProp 𝕄))
  have h (X : Fin 24 → S1x128x256.Idx → Elt F .bf16) : (bigSep Finset.univ fun k => rHas c k (X k) : sProp 𝕄) ⊢ ((c : Thread nD τ).loc cc0_scratch1) ↦{fullShare} (glue X) := by
    refine BIBase.Entails.trans ?_ (BIBase.Entails.of_eq (owns_whole (c : Thread nD τ) cc0_scratch1 fullShare (glue X)))
    refine BIBase.Entails.trans (BIBase.Entails.of_eq ?_) (owns_of_rects (c : Thread nD τ) rM fullShare slotR (fun _ _ => rfl) slots_disjoint slots_cover (glue X))
    exact bigSep_congr fun k _ => by unfold rHas; rw [glue_emb X k]
  iintro H
  ihave H' := hX $$ H
  icases H' with ⟨%X, H'⟩
  iexists (glue X)
  iapply (h X)
  iexact H'

end Cert.KernelIdealRun

end
-- ==== Proof.KernelIdealRun.Obligation.lean ====
/-
# The program as the pipeline calls it

What a device starts from and ends with, and that the program takes it from the one to the other.
-/
module

public import proofs.«01_k».proof.Proof.KernelIdealRun.Whole
public import proofs.«01_k».proof.Proof.KernelIdealRun.Slots
public import proofs.«01_k».proof.Proof.Gen.KernelIdeal.Launch
public import proofs.«01_k».proof.Proof.Gen.KernelIdeal.Points

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Before and after -/

/-- What only device `c` holds of the exchange at the start: the duties it will pay and its places on its own semaphores. -/
def mine (c : Dev nD) : sProp 𝕄 :=
  iprop((bigSep Finset.univ fun j : Fin 4 => dutyTok ER (barCell (px j c)) 0 j) ∗ atPos ER (barCell c) 0 ∅ 0
    ∗ (bigSep Finset.univ fun k : Fin 24 => iprop(dutyTok ER (sendCell c k) 0 0 ∗ dutyTok ER (recvCell (par k c) k) 0 0 ∗ atPos ER (sendCell c k) 0 ∅ 0))
    ∗ (bigSep Finset.univ fun k : Fin 24 => atPos ER (recvCell c k) 0 ∅ 0))

/-- The exchange's ghost state on device `c`, under the names `K`. -/
def ghost (K : Dev nD × CI → ℕ) (c : Dev nD) : sProp 𝕄 := iprop((bigSep Finset.univ fun ck : Dev nD × CI => record m K ck) ∗ mine c)

/-- With the credit of its waits and the levels of all waits. -/
def start (c : Dev nD) : sProp 𝕄 :=
  iprop((∃ K, ghost m K c) ∗ cred (tallyAt (barCell c) () 4) ∗ (bigSep Finset.univ fun k : Fin 24 => cred (tallyAt (recvCell c k) () N)) ∗ levAts L lv)

/-- Before the program: that, and the two slot buffers. -/
def Φ₀ (c : Dev nD) : sProp 𝕄 := iprop(start m c ∗ (bigSep Finset.univ fun k : Fin 24 => sAny c k) ∗ (bigSep Finset.univ fun k : Fin 24 => rAny c k))

/-- After it: every semaphore at zero, and the two slot buffers. -/
def Φ₁ (c : Dev nD) : sProp 𝕄 :=
  iprop(semVal (barCell c) 0
    ∗ (bigSep Finset.univ fun k : Fin 24 => iprop(sAny (F := F) c k ∗ semVal (sendCell c k) 0))
    ∗ (bigSep Finset.univ fun k : Fin 24 => iprop(rAny (F := F) c k ∗ semVal (recvCell c k) 0)))

theorem enter_intro (K : Dev nD × CI → ℕ) (c : Dev nD) (R : sProp 𝕄) :
    iprop((ghost m K c ∗ cred (tallyAt (barCell c) () 4) ∗ (bigSep Finset.univ fun k : Fin 24 => cred (tallyAt (recvCell c k) () N)) ∗ levAts L lv)
        ∗ ((bigSep Finset.univ fun k : Fin 24 => sAny c k) ∗ (bigSep Finset.univ fun k : Fin 24 => rAny c k))
        ∗ (∃ W, owes (c : Thread nD τ) (Obar c 0) W) ∗ R)
      ⊢ Bst m K c R 0 := by
  have hg : (bigSep Finset.univ fun d : Fin 4 => if 0 ≤ d.val then greet (F := F) c d else iprop(emp))
      = iprop((bigSep Finset.univ fun j : Fin 4 => dutyTok ER (barCell (px j c)) 0 j) ∗ bigSep Finset.univ fun j : Fin 4 => barPay (px j c) j) := by
    rw [← bigSep_sep']
    exact bigSep_congr fun d _ => by rw [if_pos (Nat.zero_le _)]; rfl
  have hr : (bigSep Finset.univ fun k : Fin 24 => rStat m c 0 k)
      = iprop((bigSep Finset.univ fun k : Fin 24 => atPos ER (recvCell c k) 0 ∅ 0) ∗ bigSep Finset.univ fun k : Fin 24 => cred (tallyAt (recvCell c k) () N)) := by
    rw [← bigSep_sep']
    exact bigSep_congr fun k _ => rStat_due c k (Nat.zero_le _)
  have hrg := rAny_grouped (F := F) c
  unfold Bst ghost mine records
  rw [hg, hr, bigSep_sep' Finset.univ (fun k : Fin 24 => sAny c k)]
  iintro ⟨⟨⟨Hrec, Hj, Hat, Hk, Hv⟩, Hc, Hcv, Hlev⟩, ⟨HS, HV⟩, Ho, HR⟩
  ihave HV' := hrg $$ HV
  isplitl [Hrec Hlev]; · isplitl [Hrec] <;> iassumption
  isplitl [HR]; · iexact HR
  isplitl [Ho]; · iexact Ho
  isplitl [Hj HV']; · isplitl [Hj] <;> iassumption
  isplitl [Hat]; · iexact Hat
  isplitl [Hc]; · iexact Hc
  isplitl [HS Hk]; · isplitl [HS] <;> iassumption
  isplitl [Hv] <;> iassumption

theorem leave (K : Dev nD × CI → ℕ) (c : Dev nD) (f : (cc0_stg7_0 : Ref sig .tc).ty.Contents (Elt F)) :
    St m K c (Rst m c f (semVal (barCell c) 0)) 24 24 24 24
      ⊢ iprop(Φ₁ c ∗ (∃ W, owes (c : Thread nD τ) 0 W) ∗ bigSep Finset.univ (stages m c f)) := by
  have hs : (bigSep Finset.univ fun k : Fin 24 => sStat m c 24 24 24 k) = bigSep Finset.univ fun k : Fin 24 => iprop(sAny c k ∗ semVal (sendCell c k) 0) :=
    bigSep_congr fun k _ => sStat_back c k k.isLt
  have hr : (bigSep Finset.univ fun k : Fin 24 => rStat m c 24 k) ⊢ bigSep Finset.univ fun k : Fin 24 => iprop(rAny c k ∗ semVal (recvCell c k) 0) :=
    bigSep_mono fun k _ => by
      rw [rStat_here c k k.isLt]
      show (iprop(rHas c k (msg m k.val (par k c)) ∗ semVal (recvCell c k) 0) : sProp 𝕄) ⊢ iprop((∃ X, rHas c k X) ∗ semVal (recvCell c k) 0)
      iintro ⟨H, H'⟩
      isplitl [H]; · iexists _; iexact H
      iexact H'
  unfold St Rst Φ₁
  rw [hs, Orem_end]
  iintro ⟨-, ⟨Hst, Hb⟩, Ho, HS, HV⟩
  ihave HV' := hr $$ HV
  isplitr [Ho Hst]
  · isplitl [Hb]; · iexact Hb
    isplitl [HS] <;> iassumption
  isplitl [Ho] <;> iassumption

/-! ## The pipeline's data and its obligation -/

def dats (ρ : Dev nD → PrngReg) (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => wi0 m c
    | ⟨2, _⟩ => wo0 m c
    | ⟨3, _⟩ => wi1 m c
    | ⟨4, _⟩ => wo1 m c
    | ⟨5, _⟩ => wi2 m c
    | ⟨6, _⟩ => wo2 m c
    | ⟨7, _⟩ => outV m c
  Φ t := match t with
    | ⟨0, _⟩ => Φ₀ m c
    | ⟨_ + 1, _⟩ => Φ₁ c
  q _ := fullShare
  owed t := match t with
    | ⟨0, _⟩ => Obar c 0
    | ⟨_ + 1, _⟩ => 0

variable (ρ : Dev nD → PrngReg)

/-- A staging buffer of device `c` holding `X`. -/
abbrev stg (c : Dev nD) (b : Ref sig .tc) (X : b.ty.Contents (Elt F)) : sProp 𝕄 := owns (c : Thread nD τ) (Memref.whole b) fullShare X

set_option maxRecDepth 8000 in
/-- The program's run on one device, as the pipeline asks for it. -/
theorem body_obligation (c : Dev nD) : BodyObligation (dats m ρ 0 c) (defs₀ (F := F)) 𝒱₀ () Set.univ := fun t => by
  rw [fin_N0 t, bigSep_W0, bigSep_W0]
  have hb : (onBufs cc0_body : Prog (TpuEff nD τ sig (Elt F) Λ₀ .tc) PUnit) = bodyAt0 t0_0 := rfl
  show iprop(Φ₀ m c ∗ (dats m ρ 0 c).owesAt () t0_0.castSucc
      ∗ (∃ d, stg c cc0_stg0_0 ((dats m ρ 0 c).before (0 : Fin 8) t0_0 d))
      ∗ (∃ d, stg c cc0_stg1_0 ((dats m ρ 0 c).before (1 : Fin 8) t0_0 d))
      ∗ (∃ d, stg c cc0_stg2_0 ((dats m ρ 0 c).before (2 : Fin 8) t0_0 d))
      ∗ (∃ d, stg c cc0_stg3_0 ((dats m ρ 0 c).before (3 : Fin 8) t0_0 d))
      ∗ (∃ d, stg c cc0_stg4_0 ((dats m ρ 0 c).before (4 : Fin 8) t0_0 d))
      ∗ (∃ d, stg c cc0_stg5_0 ((dats m ρ 0 c).before (5 : Fin 8) t0_0 d))
      ∗ (∃ d, stg c cc0_stg6_0 ((dats m ρ 0 c).before (6 : Fin 8) t0_0 d))
      ∗ (∃ d, stg c cc0_stg7_0 ((dats m ρ 0 c).before (7 : Fin 8) t0_0 d)))
    ⊢ Runs c (onBufs cc0_body) (fun _ => iprop(Φ₁ c ∗ (dats m ρ 0 c).owesAt () t0_0.succ
      ∗ stg c cc0_stg0_0 (xIn m c) ∗ stg c cc0_stg1_0 (wi0 m c) ∗ stg c cc0_stg2_0 (wo0 m c) ∗ stg c cc0_stg3_0 (wi1 m c)
      ∗ stg c cc0_stg4_0 (wo1 m c) ∗ stg c cc0_stg5_0 (wi2 m c) ∗ stg c cc0_stg6_0 (wo2 m c) ∗ stg c cc0_stg7_0 (outV m c)))
  have b0 : ∀ d, (dats m ρ 0 c).before (0 : Fin 8) t0_0 d = xIn m c := fun d => by unfold Dat.before; rw [if_pos (fetch0_0 t0_0)]; rfl
  have b1 : ∀ d, (dats m ρ 0 c).before (1 : Fin 8) t0_0 d = wi0 m c := fun d => by unfold Dat.before; rw [if_pos (fetch0_1 t0_0)]; rfl
  have b2 : ∀ d, (dats m ρ 0 c).before (2 : Fin 8) t0_0 d = wo0 m c := fun d => by unfold Dat.before; rw [if_pos (fetch0_2 t0_0)]; rfl
  have b3 : ∀ d, (dats m ρ 0 c).before (3 : Fin 8) t0_0 d = wi1 m c := fun d => by unfold Dat.before; rw [if_pos (fetch0_3 t0_0)]; rfl
  have b4 : ∀ d, (dats m ρ 0 c).before (4 : Fin 8) t0_0 d = wo1 m c := fun d => by unfold Dat.before; rw [if_pos (fetch0_4 t0_0)]; rfl
  have b5 : ∀ d, (dats m ρ 0 c).before (5 : Fin 8) t0_0 d = wi2 m c := fun d => by unfold Dat.before; rw [if_pos (fetch0_5 t0_0)]; rfl
  have b6 : ∀ d, (dats m ρ 0 c).before (6 : Fin 8) t0_0 d = wo2 m c := fun d => by unfold Dat.before; rw [if_pos (fetch0_6 t0_0)]; rfl
  simp only [b0, b1, b2, b3, b4, b5, b6]
  have hw (b : Ref sig .tc) (X : b.ty.Contents (Elt F)) : stg c b X = pts c b X := owns_whole (c : Thread nD τ) b fullShare X
  have hst (g : (cc0_stg7_0 : Ref sig .tc).ty.Contents (Elt F)) : bigSep Finset.univ (stages m c g)
      = iprop(stg c cc0_stg0_0 (xIn m c) ∗ stg c cc0_stg1_0 (wi0 m c) ∗ stg c cc0_stg2_0 (wo0 m c) ∗ stg c cc0_stg3_0 (wi1 m c)
        ∗ stg c cc0_stg4_0 (wo1 m c) ∗ stg c cc0_stg5_0 (wi2 m c) ∗ stg c cc0_stg6_0 (wo2 m c) ∗ stg c cc0_stg7_0 g) := by
    rw [bigSep_W0 (stages m c g), hw, hw, hw, hw, hw, hw, hw, hw]; rfl
  unfold Φ₀ start Dat.owesAt Pipeline.owesWithin
  rw [show (dats m ρ 0 c).owed t0_0.castSucc = Obar c 0 from rfl, show (dats m ρ 0 c).owed t0_0.succ = 0 from rfl]
  iintro ⟨⟨⟨⟨%K, Hg⟩, Hs⟩, HB⟩, ⟨%W, -, Ho⟩, ⟨%_, H0⟩, ⟨%_, H1⟩, ⟨%_, H2⟩, ⟨%_, H3⟩, ⟨%_, H4⟩, ⟨%_, H5⟩, ⟨%_, H6⟩, ⟨%d, H7⟩⟩
  iapply ((enter_intro m K c _).trans (run_all (g := (dats m ρ 0 c).before (7 : Fin 8) t0_0 d) ((leave m K c _).trans ?_))) $$ [Hg Hs HB Ho H0 H1 H2 H3 H4 H5 H6 H7]
  · rw [hst]
    iintro ⟨HΦ, ⟨%W', Ho⟩, Hst⟩
    isplitl [HΦ]; · iexact HΦ
    isplitl [Ho]
    · iexists W'
      isplitr; · ipureintro; exact fun _ _ => Or.inl trivial
      iexact Ho
    iexact Hst
  · rw [hst]
    isplitl [Hg Hs]; · isplitl [Hg] <;> iassumption
    isplitl [HB]; · iexact HB
    isplitl [Ho]; · iexists W; iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.KernelIdealRun

end
-- ==== Proof.KernelIdealRun.Setup.lean ====
/-
# Setting the exchange up

From what the launch deals out, every semaphore of the exchange gets its invariant, and every duty goes to the device that
will pay it.
-/
module

public import proofs.«01_k».proof.Proof.KernelIdealRun.Obligation

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One device's semaphores and duties, listed -/

/-- A device's semaphores: the barrier's, the twenty-four send ones, the twenty-four receive ones. -/
theorem bigSep_CI (Φ : CI → sProp 𝕄) : bigSep Finset.univ Φ
    = iprop(Φ none ∗ (bigSep Finset.univ fun k : Fin 24 => Φ (some (false, k))) ∗ bigSep Finset.univ fun k : Fin 24 => Φ (some (true, k))) := by
  have hb (Ψ : Bool → sProp 𝕄) : bigSep Finset.univ Ψ = iprop(Ψ false ∗ Ψ true) :=
    bigSep_univ_eq_bigSepL [false, true] (by decide) (by decide) Ψ
  have hu (Ψ : PUnit.{1} → sProp 𝕄) : bigSep Finset.univ Ψ = Ψ ⟨⟩ := BI.bigSep_singleton
  rw [bigSep_univ_equiv ((Equiv.sumComm _ _).trans (Equiv.optionEquivSumPUnit (Bool × Fin 24)).symm) Φ, bigSep_univ_sum, hu, bigSep_univ_prod, hb]
  rfl

theorem osem_injective : Function.Injective osem := by decide +kernel
theorem csem_injective : Function.Injective csem := by
  intro a b h
  match a, b with
  | none, none => rfl
  | none, some (x, k) => exact absurd h (by revert x k; decide +kernel)
  | some (x, k), none => exact absurd h (by revert x k; decide +kernel)
  | some x, some y => exact congrArg some (osem_injective h)

theorem kcell_injective : Function.Injective (kcell : Dev nD × CI → GSem nD τ sig) := by
  rintro ⟨c, x⟩ ⟨c', y⟩ h
  have h1 : c = c' := congrArg (fun g : GSem nD τ sig => g.1.1) h
  have h2 : x = y := csem_injective (congrArg Prod.snd h)
  rw [h1, h2]
def theCells : Finset (GSem nD τ sig) := Finset.univ.map ⟨kcell, kcell_injective⟩

/-- A device's duties by the semaphore they are paid to: four to its barrier's, one to each other. -/
abbrev TI : Type := Fin 4 ⊕ (Bool × Fin 24)
def tokAt : TI → CI × Fin 4
  | .inl j => (none, j)
  | .inr x => (some x, 0)
theorem tokAt_injective : Function.Injective tokAt := by
  intro a b h
  match a, b with
  | .inl j, .inl j' => exact congrArg Sum.inl (congrArg Prod.snd h)
  | .inl j, .inr x => exact absurd (congrArg Prod.fst h) (fun h' => by cases h')
  | .inr x, .inl j => exact absurd (congrArg Prod.fst h) (fun h' => by cases h')
  | .inr x, .inr y => exact congrArg Sum.inr (Option.some.inj (congrArg Prod.fst h))
def tokOf (ct : Dev nD × TI) : GSem nD τ sig × ℕ × Fin 4 := (kcell (ct.1, (tokAt ct.2).1), 0, (tokAt ct.2).2)
theorem tokOf_injective : Function.Injective tokOf := by
  rintro ⟨c, x⟩ ⟨c', y⟩ h
  have h1 := kcell_injective (congrArg Prod.fst h)
  have h2 : (tokAt x).2 = (tokAt y).2 := congrArg (fun z : GSem nD τ sig × ℕ × Fin 4 => z.2.2) h
  have h3 : x = y := tokAt_injective (Prod.ext (congrArg Prod.snd h1) h2)
  have h4 : c = c' := congrArg Prod.fst h1
  rw [h4, h3]
def theToks : Finset (GSem nD τ sig × ℕ × Fin 4) := Finset.univ.map ⟨tokOf, tokOf_injective⟩

def u₀ : UU := (initOf (Pipeline.cells cfgs cellOf_inj) (Pipeline.launchToks cfgs cellOf_inj), initOf theCells theToks)

/-- The duties paid to device `c`'s semaphores. -/
def paidTo (c : Dev nD) : sProp 𝕄 :=
  iprop((bigSep Finset.univ fun j : Fin 4 => dutyTok ER (barCell c) 0 j)
    ∗ (bigSep Finset.univ fun k : Fin 24 => dutyTok ER (sendCell c k) 0 0) ∗ (bigSep Finset.univ fun k : Fin 24 => dutyTok ER (recvCell c k) 0 0))

/-- What the launch deals device `c`. -/
def G (c : Dev nD) : sProp 𝕄 :=
  iprop((bigSep Finset.univ fun x : CI => roundState ER (Rd m) (kcell (c, x)) 0)
    ∗ ((bigSep Finset.univ fun x : CI => atPos ER (kcell (c, x)) 0 ∅ 0) ∗ bigSep Finset.univ fun x : CI => reached ER (kcell (c, x)) 0) ∗ paidTo c)

theorem deal : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun x : CI => Φ (kcell (c, x)) := by
    unfold theCells; rw [bigSep_map, bigSep_univ_prod]; rfl
  have hb (Ψ : Bool → sProp 𝕄) : bigSep Finset.univ Ψ = iprop(Ψ false ∗ Ψ true) :=
    bigSep_univ_eq_bigSepL [false, true] (by decide) (by decide) Ψ
  have hT : bigSep theToks (fun x => (dutyTok ER x.1 x.2.1 x.2.2 : sProp 𝕄)) = bigSep Finset.univ fun c : Dev nD => paidTo c := by
    unfold theToks; rw [bigSep_map, bigSep_univ_prod]
    exact bigSep_congr fun c _ => by
      unfold paidTo
      rw [bigSep_univ_sum, bigSep_univ_prod (fun x : Bool × Fin 24 => _), hb]
      rfl
  iintro HX
  imod (Rounds.fund ER (Rd m) theCells theToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']; · isplitl [Hat'] <;> iassumption
  iexact Htok'

/-! ## The semaphores at zero -/

theorem ownSems0_eq (c : Dev nD) : (Pipeline.ownSems0 (Ix := Unit) (Name := ℕ) (U := UU) (Lvl := ℕ) (Val := Elt F) (τ := τ) osem c : sProp 𝕄)
    = iprop((bigSep Finset.univ fun k : Fin 24 => semVal (sendCell c k) 0) ∗ bigSep Finset.univ fun k : Fin 24 => semVal (recvCell c k) 0) := by
  have hb (Ψ : Bool → sProp 𝕄) : bigSep Finset.univ Ψ = iprop(Ψ false ∗ Ψ true) :=
    bigSep_univ_eq_bigSepL [false, true] (by decide) (by decide) Ψ
  unfold Pipeline.ownSems0
  rw [bigSep_univ_prod, hb]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun x : CI => semVal (kcell (c, x)) 0 : sProp 𝕄) := by
  rw [ownSems0_eq, unscopedSems0_eq, bigSep_CI]
  iintro ⟨H, HB⟩
  isplitl [HB]; · iexact HB
  iexact H

/-! ## The invariants, and the duties to their payers -/

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CI => iprop((∃ κ : ℕ, cellInv ER (Rd m) κ (kcell (c, x))) ∗ reached ER (kcell (c, x)) 0))
          ∗ (bigSep Finset.univ fun x : CI => atPos ER (kcell (c, x)) 0 ∅ 0) ∗ paidTo c) := by
  have hi : iprop((bigSep Finset.univ fun x : CI => semVal (kcell (c, x)) 0) ∗ bigSep Finset.univ fun x : CI => roundState ER (Rd m) (kcell (c, x)) 0)
      ⊢ (|={Set.univ}=> bigSep Finset.univ fun x : CI => iprop(∃ κ : ℕ, cellInv ER (Rd m) κ (kcell (c, x))) : sProp 𝕄) := by
    rw [← bigSep_sep']
    exact (bigSep_mono fun x _ => (Rounds.body_intro ER (Rd m) (kcell (c, x))).trans inv_alloc).trans (bigSep_fupd _ _)
  unfold G
  iintro ⟨Hos, Hus, Hst, ⟨Hat, Hr⟩, Htok⟩
  ihave Hv := (sems0 (F := F) c) $$ [Hos Hus]
  · isplitl [Hos] <;> iassumption
  imod hi $$ [Hv Hst] with Hinv
  · isplitl [Hv] <;> iassumption
  imodintro
  isplitl [Hinv Hr]
  · rw [bigSep_sep']; isplitl [Hinv] <;> iassumption
  isplitl [Hat] <;> iassumption

/-- Every duty to the device that pays it: a barrier's to the partner under its mask, a receive semaphore's to the sender. -/
theorem to_payers : (bigSep Finset.univ fun c : Dev nD => iprop((bigSep Finset.univ fun x : CI => atPos ER (kcell (c, x)) 0 ∅ 0) ∗ paidTo c : sProp 𝕄))
    ⊢ bigSep Finset.univ fun c : Dev nD => mine (F := F) c := by
  have hB : (bigSep Finset.univ fun c : Dev nD => bigSep Finset.univ fun j : Fin 4 => (dutyTok ER (barCell c) 0 j : sProp 𝕄))
      = bigSep Finset.univ fun c : Dev nD => bigSep Finset.univ fun j : Fin 4 => dutyTok ER (barCell (px j c)) 0 j := by
    rw [bigSep_univ_comm, bigSep_univ_comm (fun (c : Dev nD) (j : Fin 4) => (dutyTok ER (barCell (px j c)) 0 j : sProp 𝕄))]
    exact bigSep_congr fun j _ => bigSep_univ_equiv (pxEquiv j) (fun c : Dev nD => (dutyTok ER (barCell c) 0 j : sProp 𝕄))
  have hV : (bigSep Finset.univ fun c : Dev nD => bigSep Finset.univ fun k : Fin 24 => (dutyTok ER (recvCell c k) 0 0 : sProp 𝕄))
      = bigSep Finset.univ fun c : Dev nD => bigSep Finset.univ fun k : Fin 24 => dutyTok ER (recvCell (par k c) k) 0 0 := by
    rw [bigSep_univ_comm, bigSep_univ_comm (fun (c : Dev nD) (k : Fin 24) => (dutyTok ER (recvCell (par k c) k) 0 0 : sProp 𝕄))]
    exact bigSep_congr fun k _ => bigSep_univ_equiv (pxEquiv (jOf k)) (fun c : Dev nD => (dutyTok ER (recvCell c k) 0 0 : sProp 𝕄))
  have hC (c : Dev nD) : (bigSep Finset.univ fun x : CI => (atPos ER (kcell (c, x)) 0 ∅ 0 : sProp 𝕄))
      = iprop(atPos ER (barCell c) 0 ∅ 0 ∗ (bigSep Finset.univ fun k : Fin 24 => atPos ER (sendCell c k) 0 ∅ 0)
        ∗ bigSep Finset.univ fun k : Fin 24 => atPos ER (recvCell c k) 0 ∅ 0) := bigSep_CI _
  unfold paidTo mine
  simp only [hC, bigSep_sep']
  rw [hB, hV]
  iintro ⟨⟨Hb, Hs, Hr⟩, Tb, Ts, Tr⟩
  isplitl [Tb]; · iexact Tb
  isplitl [Hb]; · iexact Hb
  isplitr [Hr]
  · isplitl [Ts]; · iexact Ts
    isplitl [Tr] <;> iassumption
  iexact Hr

/-- What the global step makes for device `c`. -/
def G' (c : Dev nD) : sProp 𝕄 := iprop(∃ K, ghost m K c)

theorem share (K : Dev nD × CI → ℕ) :
    iprop((bigSep Finset.univ fun ck : Dev nD × CI => record m K ck) ∗ bigSep Finset.univ fun c : Dev nD => mine (F := F) c) ⊢ bigSep Finset.univ (G' m) := by
  refine (sep_mono_left (BI.bigSep_of_persistent (Finset.univ : Finset (Dev nD)) (bigSep Finset.univ fun ck : Dev nD × CI => record m K ck))).trans ?_
  rw [← bigSep_sep']
  refine bigSep_mono fun c _ => ?_
  show iprop((bigSep Finset.univ fun ck : Dev nD × CI => record m K ck) ∗ mine (F := F) c) ⊢ iprop(∃ K, ghost m K c)
  unfold ghost
  iintro H
  iexists K
  iexact H

theorem regroup :
    (bigSep Finset.univ fun c : Dev nD => iprop((bigSep Finset.univ fun x : CI => iprop((∃ κ : ℕ, cellInv ER (Rd m) κ (kcell (c, x))) ∗ reached ER (kcell (c, x)) 0))
          ∗ (bigSep Finset.univ fun x : CI => atPos ER (kcell (c, x)) 0 ∅ 0) ∗ paidTo c) : sProp 𝕄)
      ⊢ bigSep Finset.univ (G' m) := by
  have hk : (bigSep Finset.univ fun ck : Dev nD × CI => iprop((∃ κ : ℕ, cellInv ER (Rd m) κ (kcell ck)) ∗ reached ER (kcell ck) 0) : sProp 𝕄)
      ⊢ iprop(∃ K : Dev nD × CI → ℕ, bigSep Finset.univ fun ck : Dev nD × CI => record m K ck) := by
    refine (bigSep_mono (Ψ := fun ck : Dev nD × CI => iprop(∃ κ : ℕ, cellInv ER (Rd m) κ (kcell ck) ∗ reached ER (kcell ck) 0)) fun ck _ => ?_).trans
      (BI.bigSep_exists_pi Finset.univ (fun (ck : Dev nD × CI) (κ : ℕ) => (iprop(cellInv ER (Rd m) κ (kcell ck) ∗ reached ER (kcell ck) 0) : sProp 𝕄)))
    show (iprop((∃ κ : ℕ, cellInv ER (Rd m) κ (kcell ck)) ∗ reached ER (kcell ck) 0) : sProp 𝕄) ⊢ iprop(∃ κ : ℕ, cellInv ER (Rd m) κ (kcell ck) ∗ reached ER (kcell ck) 0)
    iintro ⟨⟨%κ, H⟩, H'⟩
    iexists κ
    isplitl [H] <;> iassumption
  rw [bigSep_sep', ← bigSep_univ_prod (fun ck : Dev nD × CI => iprop((∃ κ : ℕ, cellInv ER (Rd m) κ (kcell ck)) ∗ reached ER (kcell ck) 0))]
  iintro ⟨HI, Hm⟩
  ihave HK := hk $$ HI
  icases HK with ⟨%K, HI⟩
  ihave Hm' := (to_payers (F := F)) $$ Hm
  iapply (share m K)
  isplitl [HI] <;> iassumption

/-- The global step: from all devices' semaphores at zero and what the launch dealt, to the exchange's ghost state. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

end Cert.KernelIdealRun

end
-- ==== Proof.KernelIdealRun.Launch.lean ====
/-
# The run

From any memory with every counter at zero: the program runs on all devices, every operand array ends as it was, the result
array of each device holds `outV`, and every counter is at zero again.
-/
module

public import proofs.«01_k».proof.Proof.KernelIdealRun.Setup
public import Idealize.ShloMosaic.Lib.Pipeline.CollectiveSegs
public import Idealize.ShloMosaic.Lib.Quiescent

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credit a device starts with -/

theorem barCell_inj {a b : Dev nD} (h : barCell a = barCell b) : a = b := congrArg (fun g : GSem nD τ sig => g.1.1) h
theorem recvCell_inj {a b : Dev nD} {k k' : Fin 24} (h : recvCell a k = recvCell b k') : a = b ∧ k = k' :=
  ⟨congrArg (fun g : GSem nD τ sig => g.1.1) h, recvQ_inj (SemLoc.dma.inj (congrArg Prod.snd h))⟩

/-- What device `d` owes a semaphore at the start. -/
theorem Obar_apply (d : Dev nD) (g : GSem nD τ sig) :
    Obar d 0 g () = (∑ k : Fin 24, if g = recvCell (par k d) k then N else 0) + ∑ j : Fin 4, if g = barCell (px j d) then 1 else 0 := by
  unfold Obar Orem
  rw [Finset.filter_true_of_mem fun _ _ => Nat.zero_le _, Finset.filter_true_of_mem fun _ _ => Nat.zero_le _,
    Pi.add_apply, Finsupp.add_apply, Finset.sum_apply, Finset.sum_apply, Finsupp.finset_sum_apply, Finsupp.finset_sum_apply]
  exact congrArg₂ Nat.add
    (Finset.sum_congr rfl fun k _ => (tallyAt_apply _ _ _ _ _).trans (if_congr ⟨And.left, fun h => ⟨h, rfl⟩⟩ rfl rfl))
    (Finset.sum_congr rfl fun j _ => (tallyAt_apply _ _ _ _ _).trans (if_congr ⟨And.left, fun h => ⟨h, rfl⟩⟩ rfl rfl))

theorem launch_bar (c : Dev nD) :
    tallyOn (barCell c) (launchCredit (Pipeline.owing fun d => Obar d 0) 0 (barCell c)) = (tallyAt (barCell c) () 4 : CellTallies nD τ sig Unit) := by
  unfold tallyAt; refine congrArg _ (Finsupp.ext fun u => ?_); cases u
  have h (d : Dev nD) : Obar d 0 (barCell c) () = ∑ j : Fin 4, if d = px j c then 1 else 0 := by
    rw [Obar_apply, Finset.sum_eq_zero fun k _ => if_neg fun h => absurd (congrArg Prod.snd h) (fun h' => by cases h'), Nat.zero_add]
    exact Finset.sum_congr rfl fun j _ => if_congr
      ⟨fun h => by rw [barCell_inj h, px_px], fun h => by rw [h, px_px]⟩ rfl rfl
  rw [Pipeline.launchCredit_owing, Finsupp.single_eq_same, Finset.sum_congr rfl fun d _ => h d, Finset.sum_comm,
    Finset.sum_congr rfl fun j _ => Finset.sum_ite_eq' Finset.univ (px j c) fun _ => 1]
  simp only [Finset.mem_univ, if_true, Finset.sum_const, Finset.card_univ, Fintype.card_fin, smul_eq_mul, Nat.mul_one]

theorem launch_recv (c : Dev nD) (k : Fin 24) :
    tallyOn (recvCell c k) (launchCredit (Pipeline.owing fun d => Obar d 0) 0 (recvCell c k)) = (tallyAt (recvCell c k) () N : CellTallies nD τ sig Unit) := by
  unfold tallyAt; refine congrArg _ (Finsupp.ext fun u => ?_); cases u
  have h (d : Dev nD) : Obar d 0 (recvCell c k) () = if d = par k c then N else 0 := by
    rw [Obar_apply, Finset.sum_eq_zero (s := (Finset.univ : Finset (Fin 4))) fun j _ => if_neg fun h => absurd (congrArg Prod.snd h) (fun h' => by cases h'),
      Nat.add_zero, Fintype.sum_eq_single k fun k' hk => if_neg fun h => hk (recvCell_inj h).2.symm]
    exact if_congr ⟨fun h => by rw [(recvCell_inj h).1, par_par], fun h => by rw [h, par_par]⟩ rfl rfl
  rw [Pipeline.launchCredit_owing, Finsupp.single_eq_same, Finset.sum_congr rfl fun d _ => h d,
    Finset.sum_ite_eq' Finset.univ (par k c) fun _ => N, if_pos (Finset.mem_univ _)]

theorem creds (c : Dev nD) : (Pipeline.launchCred (fun d => Obar d 0) c : sProp 𝕄)
    ⊢ iprop(cred (tallyAt (barCell c) () 4) ∗ bigSep Finset.univ fun k : Fin 24 => cred (tallyAt (recvCell c k) () N)) := by
  unfold Pipeline.launchCred
  refine (bigSep_subset (Finset.subset_univ (Finset.univ.map ⟨csem, csem_injective⟩))).trans ?_
  rw [bigSep_map, bigSep_CI]
  show iprop(cred (tallyOn (barCell c) (launchCredit (Pipeline.owing fun d => Obar d 0) 0 (barCell c)))
      ∗ _ ∗ bigSep Finset.univ fun k : Fin 24 => cred (tallyOn (recvCell c k) (launchCredit (Pipeline.owing fun d => Obar d 0) 0 (recvCell c k)))) ⊢ _
  simp only [launch_bar, launch_recv]
  iintro ⟨H, -, H'⟩
  isplitl [H] <;> iassumption

/-! ## Into the program and out of it -/

theorem start_intro (c : Dev nD) :
    iprop(Pipeline.unscopedRestP Pipeline.Prefetch.none cfg0.spec c (fun b => m ((c : Thread nD τ).loc b)) ∗ levAts L lv
        ∗ Pipeline.launchCred (fun d => Obar d 0) c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, HS, HV⟩
  isplitl [Hs]; · iexact Hs
  isplitl [HS]
  · iapply (sAny_split (F := F) c); iexact HS
  · iapply (rAny_split (F := F) c); iexact HV

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  rw [bigSep_sep', bigSep_sep']
  iintro ⟨Hb, ⟨HS, HzS⟩, HV, HzV⟩
  isplitl [Hb]; · iexact Hb
  isplitl [HzS HzV]; · isplitl [HzS] <;> iassumption
  isplitl [HS]
  · iapply (sAny_join (F := F) c); iexact HS
  · iapply (rAny_join (F := F) c); iexact HV

theorem mayWait_stages (c : Dev nD) (q : DmaSem sig) (hq : q.val < 8) (t : Fin (cfg0.N + 1)) :
    (levAts L lv : sProp 𝕄) ⊢ MayWait (c : Thread nD τ) (.dma q) () ((dats m ρ 0 c).owed t) := by
  rcases t with ⟨_ | _, ht⟩
  · exact mayWait_stage c q (by omega) 0
  · show (levAts L lv : sProp 𝕄) ⊢ MayWait (c : Thread nD τ) (.dma q) () 0
    rw [MayWait_zero]
    iintro -
    iempintro

theorem waits (c : Dev nD) : (levAts L lv : sProp 𝕄) ⊢ Pipeline.cellsWaits cfgs (dats m ρ) () 0 c :=
  Pipeline.cellsWaits_intro cfgs (dats m ρ) () 0 c fun w s t => mayWait_stages m ρ c _ (by fin_cases w <;> fin_cases s <;> decide) t

/-! ## The run -/

/-- What an array holds at the end. -/
def finalA (c : Dev nD) (w : Fin cfg0.W) : Buf (Elt F) ((cfg0.win w).arr.view.loc (c : Thread nD τ)) := (dats m ρ 0 c).arrAt w cfg0.N

theorem share_eq (c : Dev nD) (w : Fin cfg0.W) : (dats m ρ 0 c).share w = fullShare := by unfold Dat.share; split <;> rfl

set_option maxRecDepth 8000 in
theorem run_main : θ_run defs (onTc (τ := τ) (main (F := F))) (⟨m, fun _ => 0, ρ⟩ : MemSt nD τ sig (Elt F))
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => Obar c 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealRun

end
-- ==== Proof.KernelIdealRun.Same.lean ====
/-
# The two programs are one

No operation of the kernel was rewritten for the extended reals: `Kernel` and `KernelIdeal` name the same program. What is proved of
the second for floats of any kind is so proved of the first.
-/
module

public import proofs.«01_k».proof.Proof.Gen.Kernel
public import proofs.«01_k».proof.Proof.Gen.KernelIdeal

@[expose] public section

noncomputable section

namespace Cert.KernelIdealRun

open Idealize.ShloMosaic Idealize.SL.Sem

variable {F : FTy → Type} [FloatOps F]

/-- The bodies the launch calls. -/
theorem bodies_eq : @Cert.Kernel.defs₀ F _ _ = @Cert.KernelIdeal.defs₀ F _ _ := by
  unfold Cert.Kernel.defs₀ Cert.KernelIdeal.defs₀
  refine congrArg Defs.onTc (funext fun l => ?_)
  match l with
  | 0 =>
    funext ⟨t, s⟩
    rfl

/-- The bodies together with the pipeline around them. -/
theorem defs_eq : @Cert.Kernel.defs F _ _ = @Cert.KernelIdeal.defs F _ _ := by
  unfold Cert.Kernel.defs Cert.KernelIdeal.defs
  exact congrArg (Pipeline.defs Cert.KernelIdeal.pcfgs) bodies_eq

/-- The program of one device. -/
theorem main_eq : (Cert.Kernel.main (F := F)) = Cert.KernelIdeal.main (F := F) := rfl

end Cert.KernelIdealRun

end
-- ==== Proof.KernelIdealRun.Result.lean ====
/-
# What the arrays hold at the end

Read out of the run: the seven operand arrays are as they were, the result array of each device holds `outV`, every counter is at
zero. The same follows for `Kernel`, which is the same program.
-/
module

public import proofs.«01_k».proof.Proof.KernelIdealRun.Launch
public import proofs.«01_k».proof.Proof.KernelIdealRun.Same

@[expose] public section

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- An operand array is never written. -/
theorem finalA_in (c : Dev nD) (w : Fin cfg0.W) (h : (cfg0.win w).isOut = false) :
    finalA m ρ c w = m ((cfg0.win w).arr.view.loc (c : Thread nD τ)) := (dats m ρ 0 c).arrAt_in w h _

/-- The corner of the only block of a window that is its whole array. -/
theorem corner (b : Ref sig .tc) : (fun a => (fun _ => 0 : Fin b.ty.shape.rank → ℕ) a * b.ty.shape.size a) = fun _ => 0 := funext fun _ => Nat.zero_mul _

/-- Reading that block reads the array. -/
theorem read_all (b : Ref sig .tc) (hb : ∀ a, (fun _ => 0 : Fin b.ty.shape.rank → ℕ) a * b.ty.shape.size a + b.ty.shape.size a ≤ b.ty.shape.size a)
    (f : b.ty.Contents (Elt F)) :
    (((Memref.whole b).access (Rect.unit (fun a => (fun _ => 0 : Fin b.ty.shape.rank → ℕ) a * b.ty.shape.size a) b.ty.shape.size hb)
      : View sig .tc _ _ _)).read (Elt F) f = f :=
  Memref.read_access_unit_zero (Elt F) b (corner b) hb f

theorem finalA_out (c : Dev nD) : finalA m ρ c (7 : Fin 8) = outV m c := by
  have h : (win0_7.blk (0 : Fin 1)).view.read (Elt F) (finalA m ρ c (7 : Fin 8)) = outV m c := by
    unfold finalA
    rw [show cfg0.N = ((0 : Fin 1) : Fin cfg0.N).val + 1 from rfl, (dats m ρ 0 c).arrAt_succ (7 : Fin 8) (0 : Fin 1),
      show (cfg0.win (7 : Fin 8)).flush (0 : Fin 1) = true from flush0_7 _, if_pos rfl]
    exact View.read_write_univ _ _
  exact (read_all main_v1 _ _).symm.trans h

theorem xIn_eq (c : Dev nD) : xIn m c = m ((c : Thread nD τ).loc main_arg0) := read_all main_arg0 _ _
theorem wi0_eq (c : Dev nD) : wi0 m c = m ((c : Thread nD τ).loc main_arg1) := read_all main_arg1 _ _
theorem wo0_eq (c : Dev nD) : wo0 m c = m ((c : Thread nD τ).loc main_arg2) := read_all main_arg2 _ _
theorem wi1_eq (c : Dev nD) : wi1 m c = m ((c : Thread nD τ).loc main_arg3) := read_all main_arg3 _ _
theorem wo1_eq (c : Dev nD) : wo1 m c = m ((c : Thread nD τ).loc main_arg4) := read_all main_arg4 _ _
theorem wi2_eq (c : Dev nD) : wi2 m c = m ((c : Thread nD τ).loc main_arg5) := read_all main_arg5 _ _
theorem wo2_eq (c : Dev nD) : wo2 m c = m ((c : Thread nD τ).loc main_arg6) := read_all main_arg6 _ _

/-- The run, read at the arrays. -/
theorem run_read : θ_run defs (onTc (τ := τ) (main (F := F))) (⟨m, fun _ => 0, ρ⟩ : MemSt nD τ sig (Elt F)) (fun r =>
    (∀ c : Dev nD, r.2.mem ((c : Thread nD τ).loc main_v1) = outV m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6))
      ∧ r.2.sem = fun _ => 0) :=
  (θ_run defs _ _).mono (fun _ h => ⟨fun c => ⟨(h.1 c (7 : Fin 8)).trans (finalA_out m ρ c),
      (h.1 c (0 : Fin 8)).trans (finalA_in m ρ c (0 : Fin 8) rfl),
      (h.1 c (1 : Fin 8)).trans (finalA_in m ρ c (1 : Fin 8) rfl),
      (h.1 c (2 : Fin 8)).trans (finalA_in m ρ c (2 : Fin 8) rfl),
      (h.1 c (3 : Fin 8)).trans (finalA_in m ρ c (3 : Fin 8) rfl),
      (h.1 c (4 : Fin 8)).trans (finalA_in m ρ c (4 : Fin 8) rfl),
      (h.1 c (5 : Fin 8)).trans (finalA_in m ρ c (5 : Fin 8) rfl),
      (h.1 c (6 : Fin 8)).trans (finalA_in m ρ c (6 : Fin 8) rfl)⟩, h.2⟩)
    (run_main m ρ)

end Cert.KernelIdealRun

end
-- ==== Proof.KernelIdealRun.Frames.lean ====
/-
# Every operand ends as it was

For the kernel at the machine's words, for the kernel at the extended reals, and for the reference.
-/
module

public import proofs.«01_k».proof.Defs
public import proofs.«01_k».proof.Proof.KernelIdealRun.Result
public import proofs.«01_k».proof.Proof.Gen.ReferenceIdeal.Run

@[expose] public section

noncomputable section

namespace Cert.KernelIdealRun

open Idealize.ShloMosaic Idealize.SL.Sem

/-- The kernel over the extended reals. -/
theorem frame_ideal : Cert.quiescent_KernelIdeal := by
  intro m ρ _
  exact (θ_run Cert.KernelIdeal.defs _ _).mono (fun _ h => ⟨fun c => (h.1 c).2, h.2⟩) (run_read (F := Ideal) m ρ)

/-- The kernel at the machine's words. -/
theorem frame_words : Cert.quiescent_Kernel := by
  intro m ρ _
  have h := run_read (F := Bits) m ρ
  rw [← defs_eq, ← main_eq] at h
  exact (θ_run Cert.Kernel.defs _ _).mono (fun _ h => ⟨fun c => (h.1 c).2, h.2⟩) h

/-- The reference: it has no semaphore. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

end Cert.KernelIdealRun

end
-- ==== Proof.KernelIdealRun.Mlp.lean ====
/-
# One layer of the perceptron, a row at a time

A layer sends a row of activations through one matrix, clamps at zero, and through a second matrix. Each entry is a sum over the
hidden units, so a layer over all hidden units is the sum of the layers over the sixteen devices' shares of them.
-/
module

public import proofs.«01_k».proof.Proof.KernelIdealRun.Values
public import Idealize.ShloMosaic.Lib.MatmulPlain
public import Idealize.ShloMosaic.Lib.StackMember

@[expose] public section

noncomputable section

namespace Cert.KernelIdealRun

open Cert.KernelIdeal Cert.KernelIdeal.Gen

open Idealize.ShloMosaic Idealize.ShloMosaic.ValueIdx

/-- One layer with `n` hidden units, on one row. -/
def step {n : ℕ} (wi : Fin 256 → Fin n → EReal) (wo : Fin n → Fin 256 → EReal) (row : Fin 256 → EReal) : Fin 256 → EReal :=
  fun q => ∑ u, max (∑ k, row k * wi k u) 0 * wo u q

/-- Hidden unit `u` of device `d`'s share, among all. -/
def unit (d : Fin 16) (u : Fin 512) : Fin 8192 := ⟨d.val * 512 + u.val, by omega⟩

/-- Every hidden unit is in exactly one device's share. -/
theorem sum_units (f : Fin 8192 → EReal) : ∑ u, f u = ∑ d : Fin 16, ∑ v : Fin 512, f (unit d v) := by
  rw [← Fintype.sum_prod_type' (f := fun d v => f (unit d v))]
  refine (Fintype.sum_equiv (finProdFinEquiv (m := 16) (n := 512)) _ _ fun p => ?_).symm
  exact congrArg f (Fin.ext (by show p.1.val * 512 + p.2.val = p.2.val + 512 * p.1.val; omega))

/-- The layer over all hidden units is the sum over the devices of the layers over their shares. -/
theorem step_shares (wi : Fin 256 → Fin 8192 → EReal) (wo : Fin 8192 → Fin 256 → EReal) (row : Fin 256 → EReal) (q : Fin 256) :
    ∑ d : Fin 16, step (fun k u => wi k (unit d u)) (fun u => wo (unit d u)) row q = step wi wo row q :=
  (sum_units fun u => max (∑ k, row k * wi k u) 0 * wo u q).symm

/-- What the kernel computes of a chunk in one layer, on each row. -/
theorem layer_apply (x : FVec Ideal S128x256 .bf16) (wi : Vec Ideal S256x512 .bf16) (wo : Vec Ideal S512x256 .bf16) (r : Fin 128) (q : Fin 256) :
    layer x wi wo (ix2 r q) = step (fun k u => wi (ix2 k u)) (fun u q => wo (ix2 u q)) (fun k => x (ix2 r k)) q := by
  unfold layer
  rw [shapeCast_self, shapeCast_self]
  refine (Ideal.matmul_plain_apply (M := 128) (K := 512) (N := 256) none _ wo _ r q).trans ?_
  refine (congrArg (· + _) Ideal.ofBits_zero_f32).trans ((zero_add _).trans (Finset.sum_congr rfl fun u _ => congrArg (· * wo (ix2 u q)) ?_))
  refine (congrArg₂ max (Ideal.matmul_plain_apply (M := 128) (K := 256) (N := 512) none x wi _ r u) Ideal.ofBits_zero_f32).trans ?_
  exact congrArg (max · 0) ((congrArg (· + _) Ideal.ofBits_zero_f32).trans (zero_add _))

end Cert.KernelIdealRun

end
-- ==== Proof.KernelIdealRun.Exchange.lean ====
/-
# The exchange adds up all the devices

Over the four stages of a layer, each device adds to its partial result what its partner under one mask sends. After `s` stages it
holds the sum over `2 ^ s` devices, after four the sum over all sixteen, whichever of the two orders the masks come in.
-/
module

public import proofs.«01_k».proof.Proof.KernelIdealRun.Mlp

@[expose] public section

noncomputable section

namespace Cert.KernelIdealRun

open Cert.KernelIdeal Cert.KernelIdeal.Gen

open Idealize.ShloMosaic Idealize.ShloMosaic.ValueIdx

/-- The mask that chunk `x` takes in stage `s`. -/
def turn (x : Fin 2) (s : ℕ) : Fin 4 := ⟨(s + 2 * x.val) % 4, Nat.mod_lt _ (by decide)⟩

/-- The devices whose first partial results device `c` has added up before stage `s`. -/
def reach (x : Fin 2) : ℕ → Dev nD → Finset (Dev nD)
  | 0, c => {c}
  | s + 1, c => reach x s c ∪ reach x s (px (turn x s) c)

/-- Partners have added up different devices; -/
theorem reach_disjoint : ∀ (x : Fin 2) (s : Fin 4) (c : Dev nD), Disjoint (reach x s.val c) (reach x s.val (px (turn x s.val) c)) := by
  decide +kernel
/-- in the end every device has added up all. -/
theorem reach_all : ∀ (x : Fin 2) (c : Dev nD), reach x 4 c = Finset.univ := by decide +kernel

theorem par_turn (x : Fin 2) {s l k : ℕ} (hk : k < 24) (h : k = 8 * l + 2 * s + x.val) (c : Dev nD) : par ⟨k, hk⟩ c = px (turn x s) c :=
  congrArg (px · c) (Fin.ext (by
    have hx := x.isLt
    show (k / 2 + 2 * (k % 2)) % 4 = (s + 2 * x.val) % 4
    rw [show k / 2 = 4 * l + s by omega, show k % 2 = x.val by omega, Nat.add_assoc, Nat.mul_add_mod]))

/-- Adding a slot that carries `w` adds `w`: over the extended reals a rounding changes nothing. -/
theorem acc_pack (v w : FVec Ideal S128x256 .f32) (i : S128x256.Idx) : acc v (pack w) i = v i + w i := by
  unfold acc pack
  rw [shapeCast_shapeCast]
  rfl

variable (m : (ℓ : Loc nD τ sig) → Buf (Elt Ideal) ℓ)

/-- One stage: the partial results of the two partners, added. -/
theorem stage_sum {x : Fin 2} {s l k : ℕ} (hk : k < 24) (h : k = 8 * l + 2 * s + x.val) (hs : s < 4)
    (ih : ∀ c i, val m k c i = ∑ d ∈ reach x s c, val m (8 * l + x.val) d i) (c : Dev nD) (i : S128x256.Idx) :
    acc (val m k c) (msg m k (par ⟨k, hk⟩ c)) i = ∑ d ∈ reach x (s + 1) c, val m (8 * l + x.val) d i := by
  unfold msg
  rw [acc_pack, par_turn x hk h, ih, ih]
  exact (Finset.sum_union (reach_disjoint x ⟨s, hs⟩ c)).symm

theorem val_reach {l : ℕ} (hl : l < 3) (x : Fin 2) : ∀ s < 4, ∀ (c : Dev nD) (i : S128x256.Idx),
    val m (8 * l + 2 * s + x.val) c i = ∑ d ∈ reach x s c, val m (8 * l + x.val) d i
  | 0, _, c, i => (Finset.sum_singleton (fun d => val m (8 * l + x.val) d i) c).symm
  | s + 1, h, c, i => by
    have hx := x.isLt
    have hk : 8 * l + 2 * s + x.val < 24 := by omega
    rw [show 8 * l + 2 * (s + 1) + x.val = 8 * l + 2 * s + x.val + 2 by omega, val_acc m (by omega) hk]
    exact stage_sum m hk rfl (by omega) (val_reach hl x s (by omega)) c i

/-- The last stage of layer `l`: the sum over all devices. -/
theorem layer_sum {l : ℕ} (hl : l < 3) (x : Fin 2) {k : ℕ} (hk : k < 24) (h : k = 8 * l + 2 * 3 + x.val) (c : Dev nD) (i : S128x256.Idx) :
    acc (val m k c) (msg m k (par ⟨k, hk⟩ c)) i = ∑ d, val m (8 * l + x.val) d i := by
  rw [stage_sum m (x := x) hk h (by omega) (fun c i => by rw [h]; exact val_reach m hl x 3 (by omega) c i), reach_all]

/-- The second layer starts from the sum of the first, -/
theorem second_layer (x : Fin 2) (c : Dev nD) (r : Fin 128) (q : Fin 256) :
    val m (8 + x.val) c (ix2 r q)
      = step (fun k u => wi1 m c (ix2 k u)) (fun u q => wo1 m c (ix2 u q)) (fun k => ∑ d, val m x.val d (ix2 r k)) q := by
  have hx := x.isLt
  rw [show 8 + x.val = 6 + x.val + 2 by omega, val_layer1 m (by omega) (by omega)]
  refine (layer_apply _ _ _ r q).trans (congrArg (step _ _ · q) (funext fun k => ?_))
  exact (layer_sum m (l := 0) (by omega) x (by omega) (by omega) c (ix2 r k)).trans (by rw [Nat.mul_zero, Nat.zero_add])
/-- the third from the sum of the second, -/
theorem third_layer (x : Fin 2) (c : Dev nD) (r : Fin 128) (q : Fin 256) :
    val m (16 + x.val) c (ix2 r q)
      = step (fun k u => wi2 m c (ix2 k u)) (fun u q => wo2 m c (ix2 u q)) (fun k => ∑ d, val m (8 + x.val) d (ix2 r k)) q := by
  have hx := x.isLt
  rw [show 16 + x.val = 14 + x.val + 2 by omega, val_layer2 m (by omega) (by omega) (by omega)]
  refine (layer_apply _ _ _ r q).trans (congrArg (step _ _ · q) (funext fun k => ?_))
  exact layer_sum m (l := 1) (by omega) x (by omega) (by omega) c (ix2 r k)
/-- and the result is the sum of the third. -/
theorem last_sum (x : Fin 2) (c : Dev nD) (i : S128x256.Idx) : val m (24 + x.val) c i = ∑ d, val m (16 + x.val) d i := by
  have hx := x.isLt
  rw [show 24 + x.val = 22 + x.val + 2 by omega, val_last m (by omega) (by omega)]
  exact layer_sum m (l := 2) (by omega) x (by omega) (by omega) c i

end Cert.KernelIdealRun

end
-- ==== Proof.KernelIdealRun.Reference.lean ====
/-
# What the reference computes

Row by row: three layers over all 8192 hidden units.
-/
module

public import proofs.«01_k».proof.Proof.KernelIdealRun.Mlp
public import proofs.«01_k».proof.Proof.Gen.ReferenceIdeal.Run

@[expose] public section

noncomputable section

namespace Cert.KernelIdealRun

open Cert.ReferenceIdeal Cert.ReferenceIdeal.Gen

open Idealize.ShloMosaic Idealize.ShloMosaic.ValueIdx

/-- A layer as the reference writes it: a product, rounded, clamped at zero, a second product, rounded. -/
def refLayer (x : FVec Ideal S256x256 .bf16) (wi : FVec Ideal S256x8192 .bf16) (wo : FVec Ideal S8192x256 .bf16) : FVec Ideal S256x256 .bf16 :=
  truncf .bf16 (Host.dotGeneral dot_S256x8192_S8192x256_S256x256_1_0_0_1_n_n none
    (maximumf (truncf .bf16 (Host.dotGeneral dot_S256x256_S256x8192_S256x8192_1_0_0_1_n_n none x wi) bitsLt_bf16_f32)
      (broadcastInDim S256x8192 ![] bcast_S_S256x8192 (constant S_ .bf16 0x0000#16))) wo) bitsLt_bf16_f32

theorem zero_bf16 : Ideal.ofBits .bf16 0x0000#16 = 0 := by simp [Ideal.ofBits, Ideal.ieee]

theorem refLayer_apply (x : FVec Ideal S256x256 .bf16) (wi : FVec Ideal S256x8192 .bf16) (wo : FVec Ideal S8192x256 .bf16) (r q : Fin 256) :
    refLayer x wi wo (ix2 r q) = step (fun k u => wi (ix2 k u)) (fun u q => wo (ix2 u q)) (fun k => x (ix2 r k)) q := by
  unfold refLayer
  refine (StackMember.dotGeneral_plain_apply (m := 256) (k := 8192) (n := 256) none _ wo r q).trans (Finset.sum_congr rfl fun u _ => congrArg (· * wo (ix2 u q)) ?_)
  exact congrArg₂ max (StackMember.dotGeneral_plain_apply (m := 256) (k := 256) (n := 8192) none x wi r u) zero_bf16

/-- The reference's result from the contents of its seven arguments. -/
def refOut (x : FVec Ideal S256x256 .bf16) (wi0 : FVec Ideal S256x8192 .bf16) (wo0 : FVec Ideal S8192x256 .bf16) (wi1 : FVec Ideal S256x8192 .bf16)
    (wo1 : FVec Ideal S8192x256 .bf16) (wi2 : FVec Ideal S256x8192 .bf16) (wo2 : FVec Ideal S8192x256 .bf16) : FVec Ideal S256x256 .f32 :=
  extf .f32 (refLayer (refLayer (refLayer x wi0 wo0) wi1 wo1) wi2 wo2) bitsLt_bf16_f32

end Cert.KernelIdealRun

end
-- ==== Proof.KernelIdealRun.Equal.lean ====
/-
# The kernel's result is the reference's

Layer by layer, on each row: the sum over the devices of what each computes from its share of the hidden units is what the
reference computes from all of them.
-/
module

public import proofs.«01_k».proof.Proof.KernelIdealRun.Exchange
public import proofs.«01_k».proof.Proof.KernelIdealRun.Reference
public import proofs.«01_k».proof.Proof.KernelIdealRun.Result
public import Idealize.ShloMosaic.Lib.Layout

@[expose] public section

noncomputable section

namespace Cert.KernelIdealRun

open Cert.KernelIdeal Cert.KernelIdeal.Gen

open Idealize.ShloMosaic Idealize.ShloMosaic.TcCoe Idealize.ShloMosaic.ValueIdx

/-- Where the whole arrays of a layer's two matrices are cut: the first by columns, the second by rows. -/
abbrev cutIn (c : Dev nD) (W : (⟨2, ![256, 8192]⟩ : Shape).Idx → EReal) : (⟨2, ![256, 512]⟩ : Shape).Idx → EReal :=
  Layout.block ⟨2, ![256, 512]⟩ ⟨2, ![256, 8192]⟩ 1 16 c W
abbrev cutOut (c : Dev nD) (W : (⟨2, ![8192, 256]⟩ : Shape).Idx → EReal) : (⟨2, ![512, 256]⟩ : Shape).Idx → EReal :=
  Layout.block ⟨2, ![512, 256]⟩ ⟨2, ![8192, 256]⟩ 0 16 c W

theorem cutIn_apply (c : Dev nD) (W : (⟨2, ![256, 8192]⟩ : Shape).Idx → EReal) (k : Fin 256) (u : Fin 512) :
    cutIn c W (ix2 k u) = W (ix2 k (unit c u)) := congrArg W (funext fun a => match a with | ⟨0, _⟩ => rfl | ⟨1, _⟩ => rfl)
theorem cutOut_apply (c : Dev nD) (W : (⟨2, ![8192, 256]⟩ : Shape).Idx → EReal) (u : Fin 512) (q : Fin 256) :
    cutOut c W (ix2 u q) = W (ix2 (unit c u) q) := congrArg W (funext fun a => match a with | ⟨0, _⟩ => rfl | ⟨1, _⟩ => rfl)

/-- A layer on each device's cut of the two matrices, summed over the devices, is the reference's layer. -/
theorem sum_layer (x : (⟨2, ![256, 256]⟩ : Shape).Idx → EReal) (wi : (⟨2, ![256, 8192]⟩ : Shape).Idx → EReal)
    (wo : (⟨2, ![8192, 256]⟩ : Shape).Idx → EReal) (R q : Fin 256) (row : Fin 256 → EReal) (h : ∀ k, row k = x (ix2 R k)) :
    ∑ d : Dev nD, step (fun k u => cutIn d wi (ix2 k u)) (fun u q => cutOut d wo (ix2 u q)) row q = refLayer x wi wo (ix2 R q) := by
  rw [refLayer_apply, ← step_shares, show row = fun k => x (ix2 R k) from funext h]
  simp only [cutIn_apply, cutOut_apply]

/-- Row `r` of chunk `x`, among all the rows. -/
def rowAt (x : Fin 2) (r : Fin 128) : Fin 256 := ⟨128 * x.val + r.val, by omega⟩

section
variable (m : (ℓ : Loc nD τ sig) → Buf (Elt Ideal) ℓ)

/-- The first layer starts from the rows of the activations. -/
theorem first_layer (x : Fin 2) (c : Dev nD) (r : Fin 128) (q : Fin 256) :
    val m x.val c (ix2 r q)
      = step (fun k u => wi0 m c (ix2 k u)) (fun u q => wo0 m c (ix2 u q)) (fun k => xIn m c (ix2 (rowAt x r) k)) q := by
  match x with
  | 0 =>
    refine (layer_apply (shapeCast S128x256 (xA m c) shapeCasts_S128x256_S128x256) _ _ r q).trans ?_
    rw [shapeCast_self]
    refine congrArg (step _ _ · q) (funext fun k => congrArg (xIn m c) (funext fun a => Fin.ext ?_))
    match a with
    | ⟨0, _⟩ => show 0 + 1 * r.val = 128 * 0 + r.val; omega
    | ⟨1, _⟩ => show 0 + 1 * k.val = k.val; omega
  | 1 =>
    refine (layer_apply (shapeCast S128x256 (xB m c) shapeCasts_S128x256_S128x256) _ _ r q).trans ?_
    rw [shapeCast_self]
    refine congrArg (step _ _ · q) (funext fun k => congrArg (xIn m c) (funext fun a => Fin.ext ?_))
    match a with
    | ⟨0, _⟩ => show 128 + 1 * r.val = 128 * 1 + r.val; omega
    | ⟨1, _⟩ => show 0 + 1 * k.val = k.val; omega

variable {X : (⟨2, ![256, 256]⟩ : Shape).Idx → EReal} {I₀ I₁ I₂ : (⟨2, ![256, 8192]⟩ : Shape).Idx → EReal}
  {O₀ O₁ O₂ : (⟨2, ![8192, 256]⟩ : Shape).Idx → EReal}

/-- When every device holds the activations and its cuts of the six matrices, each chunk's last sum is the reference's result on the
    chunk's rows. -/
theorem chunk_eq (hx : ∀ c, xIn m c = X) (hi₀ : ∀ c, wi0 m c = cutIn c I₀) (ho₀ : ∀ c, wo0 m c = cutOut c O₀)
    (hi₁ : ∀ c, wi1 m c = cutIn c I₁) (ho₁ : ∀ c, wo1 m c = cutOut c O₁) (hi₂ : ∀ c, wi2 m c = cutIn c I₂) (ho₂ : ∀ c, wo2 m c = cutOut c O₂)
    (x : Fin 2) (c : Dev nD) (r : Fin 128) (q : Fin 256) :
    val m (24 + x.val) c (ix2 r q) = refOut X I₀ O₀ I₁ O₁ I₂ O₂ (ix2 (rowAt x r) q) := by
  have h₀ (k : Fin 256) : ∑ d, val m x.val d (ix2 r k) = refLayer X I₀ O₀ (ix2 (rowAt x r) k) := by
    simp only [first_layer, hx, hi₀, ho₀]
    exact sum_layer X I₀ O₀ (rowAt x r) k _ fun _ => rfl
  have h₁ (k : Fin 256) : ∑ d, val m (8 + x.val) d (ix2 r k) = refLayer (refLayer X I₀ O₀) I₁ O₁ (ix2 (rowAt x r) k) := by
    simp only [second_layer, hi₁, ho₁]
    exact sum_layer _ I₁ O₁ (rowAt x r) k _ h₀
  rw [last_sum]
  simp only [third_layer, hi₂, ho₂]
  exact sum_layer _ I₂ O₂ (rowAt x r) q _ h₁

/-- So is the whole result, on every device. -/
theorem outV_eq (hx : ∀ c, xIn m c = X) (hi₀ : ∀ c, wi0 m c = cutIn c I₀) (ho₀ : ∀ c, wo0 m c = cutOut c O₀)
    (hi₁ : ∀ c, wi1 m c = cutIn c I₁) (ho₁ : ∀ c, wo1 m c = cutOut c O₁) (hi₂ : ∀ c, wi2 m c = cutIn c I₂) (ho₂ : ∀ c, wo2 m c = cutOut c O₂)
    (c : Dev nD) : outV m c = refOut X I₀ O₀ I₁ O₁ I₂ O₂ := by
  have key := chunk_eq m hx hi₀ ho₀ hi₁ ho₁ hi₂ ho₂
  refine funext fun (i : S256x256.Idx) => ?_
  have hat (r : Fin 128) (q : Fin 256) : at2 r q = ix2 r q := funext fun a => match a with | ⟨0, _⟩ => rfl | ⟨1, _⟩ => rfl
  have hi : (i 0).val < 256 := (i 0).isLt
  unfold outV
  split
  · rename_i h
    refine (congrArg (val m 24 c) (hat ⟨(i 0).val, h⟩ (i 1))).trans ((key 0 c ⟨(i 0).val, h⟩ (i 1)).trans (congrArg _ (funext fun a => Fin.ext ?_)))
    match a with
    | ⟨0, _⟩ => show 128 * 0 + (i 0).val = (i 0).val; omega
    | ⟨1, _⟩ => rfl
  · rename_i h
    refine (congrArg (val m 25 c) (hat ⟨(i 0).val - 128, by omega⟩ (i 1))).trans ((key 1 c ⟨(i 0).val - 128, by omega⟩ (i 1)).trans (congrArg _ (funext fun a => Fin.ext ?_)))
    match a with
    | ⟨0, _⟩ => show 128 * 1 + ((i 0).val - 128) = (i 0).val; omega
    | ⟨1, _⟩ => rfl

end

end Cert.KernelIdealRun

end
-- ==== Proof.KernelIdealRun.Algebraic.lean ====
/-
# The value claim

From memories that agree on the arguments, the kernel on its sixteen devices and the reference on its one end with the same result.
-/
module

public import proofs.«01_k».proof.Defs
public import proofs.«01_k».proof.Proof.KernelIdealRun.Equal

@[expose] public section

noncomputable section

namespace Cert.KernelIdealRun

open Idealize.ShloMosaic Idealize.ShloMosaic.TcCoe Idealize.SL.Sem

/-- Every device's result array ends holding `refOut` of the whole arguments, and so does the reference's. -/
theorem value : Cert.algebraic_KernelIdeal_ReferenceIdeal := by
  intro m ρ m' ρ' _ hagree
  refine ⟨refOut
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg5))
    (m' (((0 : Dev Cert.ReferenceIdeal.nD).tc : Thread Cert.ReferenceIdeal.nD Cert.ReferenceIdeal.τ).loc Cert.ReferenceIdeal.main_arg6)), ?_, ?_⟩
  · refine (θ_run Cert.KernelIdeal.defs _ _).mono (fun _ h c => ⟨(h.1 c).1.trans ?_, (h.1 c).2⟩) (run_read (F := Ideal) m ρ)
    exact outV_eq m (fun c => (xIn_eq m c).trans (hagree c).1) (fun c => (wi0_eq m c).trans (hagree c).2.1)
      (fun c => (wo0_eq m c).trans (hagree c).2.2.1) (fun c => (wi1_eq m c).trans (hagree c).2.2.2.1)
      (fun c => (wo1_eq m c).trans (hagree c).2.2.2.2.1) (fun c => (wi2_eq m c).trans (hagree c).2.2.2.2.2.1)
      (fun c => (wo2_eq m c).trans (hagree c).2.2.2.2.2.2) c
  · exact (θ_run Cert.ReferenceIdeal.defs _ _).mono (fun _ h => h 0) (Cert.ReferenceIdeal.Value.run (F := Ideal) m' ρ')

end Cert.KernelIdealRun

end
-- ==== Proof.lean ====
/-
# The certificate

The frames come from the run of the butterfly exchange (Proof/KernelIdealRun/), proved once for floats of any kind; the value claim
from that run's contents over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdealRun.Frames
public import proofs.«01_k».proof.Proof.KernelIdealRun.Algebraic
public import Idealize.ShloMosaic.Adequacy
public import Idealize.ShloMosaic.Init

@[expose] public section

noncomputable section

namespace Cert.Proof

/-- The three frames, the idealization, and the equality of the results. -/
theorem claim : Cert.Claim :=
  ⟨Cert.Kernel.Gen.facts, Cert.KernelIdeal.Gen.facts, Cert.ReferenceIdeal.Gen.facts,
    Cert.KernelIdealRun.frame_words, Cert.KernelIdealRun.frame_ideal, Cert.KernelIdealRun.frame_reference, trivial,
    Cert.KernelIdealRun.value⟩

end Cert.Proof

end
